-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_exact [hKernelIdeal : Cert.KernelIdeal.Facts] [hReferenceIdeal : Cert.ReferenceIdeal.Facts] [hOn_exact : Cert.On_exact.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 64]⟩ : Shape).Idx, (Layout.block ⟨2, ![4096, 64]⟩ ⟨2, ![4096, 2048]⟩ 1 32 c ((Cert.On_exact.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 64]⟩ : Shape).Idx → _) i = 1#1 → r.2.mem ((c.tc : Thread Cert.KernelIdeal.nD Cert.KernelIdeal.τ).loc Cert.KernelIdeal.main_v1) i = (Layout.block ⟨2, ![4096, 64]⟩ ⟨2, ![4096, 2048]⟩ 1 32 c v0 : (⟨2, ![4096, 64]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_exact.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v13) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts) (hOn_exact : Cert.On_exact.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_on_exact (hKernelIdeal := hKernelIdeal) (hReferenceIdeal := hReferenceIdeal) (hOn_exact := hOn_exact)
    ∧ algebraic_KernelIdeal_ReferenceIdeal_pre_tame_KernelIdeal (hKernelIdeal := hKernelIdeal) (hReferenceIdeal := hReferenceIdeal) (hPre_tame_KernelIdeal := hPre_tame_KernelIdeal)
-- ==== On_exact.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  natLt_8_32 : 8 < 32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x4096 32 := (extsi 32 · natLt_8_32) main_arg0
  let main_v1 : IVec S4096x4096 32 := absi main_v0
  let main_v2 : IVec S4096x2048 32 := (extsi 32 · natLt_8_32) main_arg1
  let main_v3 : IVec S4096x2048 32 := absi main_v2
  let main_v4 : FVec F S4096x4096 .f32 := sitofp .f32 main_v1
  let main_v5 : FVec F S4096x2048 .f32 := sitofp .f32 main_v3
  let main_v6 : FVec F S4096x2048 .f32 := (fun l r => Host.dotGeneral dot_S4096x4096_S4096x2048_S4096x2048_1_0_0_1_n_n none l r) main_v4 main_v5
  let main_cst : FVec F S_ .f32 := constant S_ .f32 0x4B7FFFFF#32
  let main_v7 : FVec F S4096x2048 .f32 := broadcastInDim S4096x2048 ![] bcast_S_S4096x2048 main_cst
  let main_v8 : IVec S4096x2048 1 := cmpf .ole main_v6 main_v7
  main_v8
-- ==== Pre_tame_KernelIdeal.lean ====
abbrev S128x4096 : Shape := ⟨2, ![128, 4096]⟩
abbrev S4096x64 : Shape := ⟨2, ![4096, 64]⟩
abbrev S1 : Shape := ⟨1, ![1]⟩
abbrev S_ : Shape := ⟨0, ![]⟩
abbrev S128 : Shape := ⟨1, ![128]⟩
abbrev S64 : Shape := ⟨1, ![64]⟩

class Facts : Prop where
  natLt_8_32 : 8 < 32
  reducesTo_S128x4096_S128_d1 : S128x4096.ReducesTo [1] S128
  h_S_ : 0 < S_.numel
  bcast_S_S128 : S_.BroadcastsInDim S128 (![] : Fin 0 → Fin S128.rank)
  reducesTo_S4096x64_S64_d0 : S4096x64.ReducesTo [0] S64
  bcast_S_S64 : S_.BroadcastsInDim S64 (![] : Fin 0 → Fin S64.rank)

variable [Facts]

def fn {F : FTy → Type} [FloatOps F] (main_arg0 : IVec S128x4096 8) (main_arg1 : IVec S4096x64 8) (main_arg2 : FVec F S1 .f32) (main_arg3 : FVec F S1 .f32) : IVec S128 1 × IVec S64 1 :=
  let main_v0 : IVec S128x4096 32 := (extsi 32 · natLt_8_32) main_arg0
  let main_v1 : IVec S4096x64 32 := (extsi 32 · natLt_8_32) main_arg1
  let main_v2 : IVec S128x4096 32 := muli main_v0 main_v0
  let main_c : IVec S_ 32 := constantI S_ 32 0#32
  let main_v3 : IVec S128 32 := (fun x v => Host.reduce IntOp.addi x v reducesTo_S128x4096_S128_d1 h_S_) main_v2 main_c
  let main_c_0 : IVec S_ 32 := constantI S_ 32 16777215#32
  let main_v4 : IVec S128 32 := broadcastInDim S128 ![] bcast_S_S128 main_c_0
  let main_v5 : IVec S128 1 := cmpi .sle main_v3 main_v4
  let main_v6 : IVec S4096x64 32 := muli main_v1 main_v1
  let main_c_1 : IVec S_ 32 := constantI S_ 32 0#32
  let main_v7 : IVec S64 32 := (fun x v => Host.reduce IntOp.addi x v reducesTo_S4096x64_S64_d0 h_S_) main_v6 main_c_1
  let main_c_2 : IVec S_ 32 := constantI S_ 32 16777215#32
  let main_v8 : IVec S64 32 := broadcastInDim S64 ![] bcast_S_S64 main_c_2
  let main_v9 : IVec S64 1 := cmpi .sle main_v7 main_v8
  (main_v5, main_v9)
-- ==== Pre_tame_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩
abbrev S4096 : Shape := ⟨1, ![4096]⟩
abbrev S2048 : Shape := ⟨1, ![2048]⟩

class Facts : Prop where
  natLt_8_32 : 8 < 32
  reducesTo_S4096x4096_S4096_d1 : S4096x4096.ReducesTo [1] S4096
  h_S_ : 0 < S_.numel
  bcast_S_S4096 : S_.BroadcastsInDim S4096 (![] : Fin 0 → Fin S4096.rank)
  reducesTo_S4096x2048_S2048_d0 : S4096x2048.ReducesTo [0] S2048
  bcast_S_S2048 : S_.BroadcastsInDim S2048 (![] : Fin 0 → Fin S2048.rank)

variable [Facts]

def fn {F : FTy → Type} [FloatOps F] (main_arg0 : IVec S4096x4096 8) (main_arg1 : IVec S4096x2048 8) (main_arg2 : FVec F S1 .f32) (main_arg3 : FVec F S1 .f32) : IVec S4096 1 × IVec S2048 1 :=
  let main_v0 : IVec S4096x4096 32 := (extsi 32 · natLt_8_32) main_arg0
  let main_v1 : IVec S4096x2048 32 := (extsi 32 · natLt_8_32) main_arg1
  let main_v2 : IVec S4096x4096 32 := muli main_v0 main_v0
  let main_c : IVec S_ 32 := constantI S_ 32 0#32
  let main_v3 : IVec S4096 32 := (fun x v => Host.reduce IntOp.addi x v reducesTo_S4096x4096_S4096_d1 h_S_) main_v2 main_c
  let main_c_0 : IVec S_ 32 := constantI S_ 32 16777215#32
  let main_v4 : IVec S4096 32 := broadcastInDim S4096 ![] bcast_S_S4096 main_c_0
  let main_v5 : IVec S4096 1 := cmpi .sle main_v3 main_v4
  let main_v6 : IVec S4096x2048 32 := muli main_v1 main_v1
  let main_c_1 : IVec S_ 32 := constantI S_ 32 0#32
  let main_v7 : IVec S2048 32 := (fun x v => Host.reduce IntOp.addi x v reducesTo_S4096x2048_S2048_d0 h_S_) main_v6 main_c_1
  let main_c_2 : IVec S_ 32 := constantI S_ 32 16777215#32
  let main_v8 : IVec S2048 32 := broadcastInDim S2048 ![] bcast_S_S2048 main_c_2
  let main_v9 : IVec S2048 1 := cmpi .sle main_v7 main_v8
  (main_v5, main_v9)
-- ==== Kernel.lean ====
abbrev S128x4096 : Shape := ⟨2, ![128, 4096]⟩
abbrev S4096x64 : Shape := ⟨2, ![4096, 64]⟩
abbrev S1 : Shape := ⟨1, ![1]⟩
abbrev S17x128x4096 : Shape := ⟨3, ![17, 128, 4096]⟩
abbrev S16x128x4096 : Shape := ⟨3, ![16, 128, 4096]⟩
abbrev S16x1 : Shape := ⟨2, ![16, 1]⟩
abbrev S15x1 : Shape := ⟨2, ![15, 1]⟩
abbrev S_ : Shape := ⟨0, ![]⟩
abbrev S1x128x4096 : Shape := ⟨3, ![1, 128, 4096]⟩
abbrev S1x1 : Shape := ⟨2, ![1, 1]⟩
abbrev S128x64 : Shape := ⟨2, ![128, 64]⟩

abbrev nBuf : Space → Nat
  | .hbm => 5
  | .vmem => 5
  | .smem => 2
  | _ => 0

abbrev bufTy : (tb : Table) → Fin (tcTables nBuf tb) → BufTy
  | .hbm, ⟨0, _⟩ => ⟨S128x4096, .i8⟩
  | .hbm, ⟨1, _⟩ => ⟨S4096x64, .i8⟩
  | .hbm, ⟨2, _⟩ => ⟨S1, .f32⟩
  | .hbm, ⟨3, _⟩ => ⟨S1, .f32⟩
  | .hbm, ⟨4, _⟩ => ⟨S4096x64, .f32⟩
  | .local _ .vmem, ⟨0, _⟩ => ⟨S128x4096, .i8⟩
  | .local _ .vmem, ⟨1, _⟩ => ⟨S4096x64, .i8⟩
  | .local _ .vmem, ⟨2, _⟩ => ⟨S4096x64, .f32⟩
  | .local _ .vmem, ⟨3, _⟩ => ⟨S17x128x4096, .i8⟩
  | .local _ .vmem, ⟨4, _⟩ => ⟨S16x128x4096, .i8⟩
  | .local _ .smem, ⟨0, _⟩ => ⟨S1, .f32⟩
  | .local _ .smem, ⟨1, _⟩ => ⟨S1, .f32⟩
  | _, _ => ⟨S128x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_27 : BitVec 32 := 1#32
  let v27 : BitVec 32 := Scalar.muli v6 c1_i32_27
  let v28 : BitVec 32 := Scalar.addi c0_i32_28 v27
  v28.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_39 : BitVec 32 := 1#32
  let v37 : BitVec 32 := Scalar.muli v4 c1_i32_39
  let v38 : BitVec 32 := Scalar.addi c0_i32_40 v37
  v38.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v55 : BitVec 32 := Scalar.muli v2 c128_i32
  let v56 : Index := Scalar.indexCast v55
  let c0_47 : Index := 0#32
  ![v56.toNat, 0]
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_66 : BitVec 32 := 1#32
  let v66 : BitVec 32 := Scalar.muli v6 c1_i32_66
  let v67 : BitVec 32 := Scalar.addi c0_i32_67 v66
  v67.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_90 : BitVec 32 := 1#32
  let v84 : BitVec 32 := Scalar.muli v4 c1_i32_90
  let v85 : BitVec 32 := Scalar.addi c0_i32_91 v84
  v85.toNat
def k0_off2 (d0 : Dev nD) (c63_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v96 : BitVec 32 := Scalar.addi v2 c63_i32
  let c32_i32_98 : BitVec 32 := 32#32
  let v97 : BitVec 32 := Scalar.remsi v96 c32_i32_98
  let c128_i32_100 : BitVec 32 := 128#32
  let v104 : BitVec 32 := Scalar.muli v97 c128_i32_100
  let v105 : Index := Scalar.indexCast v104
  let c0_101 : Index := 0#32
  ![v105.toNat, 0]
def k0_off3 (d0 : Dev nD) (c0_i32_105 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v109 : BitVec 32 := Scalar.addi v2 c0_i32_105
  let c1_i32_106 : BitVec 32 := 1#32
  let v110 : BitVec 32 := Scalar.addi v109 c1_i32_106
  let c32_i32_107 : BitVec 32 := 32#32
  let v111 : BitVec 32 := Scalar.remsi v110 c32_i32_107
  let c128_i32_109 : BitVec 32 := 128#32
  let v118 : BitVec 32 := Scalar.muli v111 c128_i32_109
  let v119 : Index := Scalar.indexCast v118
  let c0_110 : Index := 0#32
  ![v119.toNat, 0]
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_128 : BitVec 32 := 1#32
  let v129 : BitVec 32 := Scalar.muli v6 c1_i32_128
  let v130 : BitVec 32 := Scalar.addi c0_i32_129 v129
  v130.toNat
def k0_dev8 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_152 : BitVec 32 := 1#32
  let v147 : BitVec 32 := Scalar.muli v4 c1_i32_152
  let v148 : BitVec 32 := Scalar.addi c0_i32_153 v147
  v148.toNat
def k0_dev9 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_190 : BitVec 32 := 1#32
  let v192 : BitVec 32 := Scalar.muli v6 c1_i32_190
  let v193 : BitVec 32 := Scalar.addi c0_i32_191 v192
  v193.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_214 : BitVec 32 := 1#32
  let v210 : BitVec 32 := Scalar.muli v4 c1_i32_214
  let v211 : BitVec 32 := Scalar.addi c0_i32_215 v210
  v211.toNat
def k0_dev11 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_252 : BitVec 32 := 1#32
  let v255 : BitVec 32 := Scalar.muli v6 c1_i32_252
  let v256 : BitVec 32 := Scalar.addi c0_i32_253 v255
  v256.toNat
def k0_dev12 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_276 : BitVec 32 := 1#32
  let v273 : BitVec 32 := Scalar.muli v4 c1_i32_276
  let v274 : BitVec 32 := Scalar.addi c0_i32_277 v273
  v274.toNat
def k0_dev13 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_314 : BitVec 32 := 1#32
  let v318 : BitVec 32 := Scalar.muli v6 c1_i32_314
  let v319 : BitVec 32 := Scalar.addi c0_i32_315 v318
  v319.toNat
def k0_dev14 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_338 : BitVec 32 := 1#32
  let v336 : BitVec 32 := Scalar.muli v4 c1_i32_338
  let v337 : BitVec 32 := Scalar.addi c0_i32_339 v336
  v337.toNat
def k0_dev15 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_376 : BitVec 32 := 1#32
  let v381 : BitVec 32 := Scalar.muli v6 c1_i32_376
  let v382 : BitVec 32 := Scalar.addi c0_i32_377 v381
  v382.toNat
def k0_dev16 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_400 : BitVec 32 := 1#32
  let v399 : BitVec 32 := Scalar.muli v4 c1_i32_400
  let v400 : BitVec 32 := Scalar.addi c0_i32_401 v399
  v400.toNat
def k0_dev17 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_438 : BitVec 32 := 1#32
  let v444 : BitVec 32 := Scalar.muli v6 c1_i32_438
  let v445 : BitVec 32 := Scalar.addi c0_i32_439 v444
  v445.toNat
def k0_dev18 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_462 : BitVec 32 := 1#32
  let v462 : BitVec 32 := Scalar.muli v4 c1_i32_462
  let v463 : BitVec 32 := Scalar.addi c0_i32_463 v462
  v463.toNat
def k0_dev19 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_500 : BitVec 32 := 1#32
  let v507 : BitVec 32 := Scalar.muli v6 c1_i32_500
  let v508 : BitVec 32 := Scalar.addi c0_i32_501 v507
  v508.toNat
def k0_dev20 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_524 : BitVec 32 := 1#32
  let v525 : BitVec 32 := Scalar.muli v4 c1_i32_524
  let v526 : BitVec 32 := Scalar.addi c0_i32_525 v525
  v526.toNat
def k0_dev21 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_562 : BitVec 32 := 1#32
  let v570 : BitVec 32 := Scalar.muli v6 c1_i32_562
  let v571 : BitVec 32 := Scalar.addi c0_i32_563 v570
  v571.toNat
def k0_dev22 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_586 : BitVec 32 := 1#32
  let v588 : BitVec 32 := Scalar.muli v4 c1_i32_586
  let v589 : BitVec 32 := Scalar.addi c0_i32_587 v588
  v589.toNat
def k0_dev23 (d0 : Dev nD) : Nat :=
  let c0_i32_625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_624 : BitVec 32 := 1#32
  let v633 : BitVec 32 := Scalar.muli v6 c1_i32_624
  let v634 : BitVec 32 := Scalar.addi c0_i32_625 v633
  v634.toNat
def k0_dev24 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_648 : BitVec 32 := 1#32
  let v651 : BitVec 32 := Scalar.muli v4 c1_i32_648
  let v652 : BitVec 32 := Scalar.addi c0_i32_649 v651
  v652.toNat
def k0_dev25 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_686 : BitVec 32 := 1#32
  let v696 : BitVec 32 := Scalar.muli v6 c1_i32_686
  let v697 : BitVec 32 := Scalar.addi c0_i32_687 v696
  v697.toNat
def k0_dev26 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_710 : BitVec 32 := 1#32
  let v714 : BitVec 32 := Scalar.muli v4 c1_i32_710
  let v715 : BitVec 32 := Scalar.addi c0_i32_711 v714
  v715.toNat
def k0_dev27 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_748 : BitVec 32 := 1#32
  let v759 : BitVec 32 := Scalar.muli v6 c1_i32_748
  let v760 : BitVec 32 := Scalar.addi c0_i32_749 v759
  v760.toNat
def k0_dev28 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_772 : BitVec 32 := 1#32
  let v777 : BitVec 32 := Scalar.muli v4 c1_i32_772
  let v778 : BitVec 32 := Scalar.addi c0_i32_773 v777
  v778.toNat
def k0_dev29 (d0 : Dev nD) : Nat :=
  let c0_i32_811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_810 : BitVec 32 := 1#32
  let v822 : BitVec 32 := Scalar.muli v6 c1_i32_810
  let v823 : BitVec 32 := Scalar.addi c0_i32_811 v822
  v823.toNat
def k0_dev30 (d0 : Dev nD) : Nat :=
  let c0_i32_835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_834 : BitVec 32 := 1#32
  let v840 : BitVec 32 := Scalar.muli v4 c1_i32_834
  let v841 : BitVec 32 := Scalar.addi c0_i32_835 v840
  v841.toNat
def k0_dev31 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_872 : BitVec 32 := 1#32
  let v885 : BitVec 32 := Scalar.muli v6 c1_i32_872
  let v886 : BitVec 32 := Scalar.addi c0_i32_873 v885
  v886.toNat
def k0_dev32 (d0 : Dev nD) : Nat :=
  let c0_i32_897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_896 : BitVec 32 := 1#32
  let v903 : BitVec 32 := Scalar.muli v4 c1_i32_896
  let v904 : BitVec 32 := Scalar.addi c0_i32_897 v903
  v904.toNat
def k0_dev33 (d0 : Dev nD) : Nat :=
  let c0_i32_935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_934 : BitVec 32 := 1#32
  let v948 : BitVec 32 := Scalar.muli v6 c1_i32_934
  let v949 : BitVec 32 := Scalar.addi c0_i32_935 v948
  v949.toNat
abbrev stage0_0 : Fin 1 → Memref sig .tc .vmem S128x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Ideal.Protocol.lean ====
/-
# The protocol of the two-way all-gather

Thirty-two devices stand on a ring. Each holds a block of 128 rows of `x`. The blocks travel both ways at once:
clockwise (direction `true`) for sixteen hops, counter-clockwise (direction `false`) for fifteen, so that after the last
hop every device has met all thirty-two blocks. Each direction has its own landing buffer, one slot per hop and slot 0
for the device's own block: hop `h` sends slot `h` of a device into slot `h + 1` of its neighbour.

The protocol, one round per semaphore:

* a device's barrier has two units, one from each neighbour. The neighbour a device sends TO in direction `b` hands it,
  with its unit, all the slots of its direction-`b` buffer from slot 1 on. So no copy starts before the device it lands
  on is inside the kernel.
* the receive semaphore of hop `h` hands its owner slot `h + 1` holding the block of the device `h + 1` steps back.
* the send semaphore of hop `h` hands back the share of slot `h` lent to the copy. A copy borrows half of a slot's
  ownership, so the slot can be read while it is on the way.

Levels: barrier 1, the receive semaphores by hop and direction above it, everything else 0.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pipeline.ValueKit
public import Idealize.ShloMosaic.Lib.ValueLayout
public import Idealize.ShloMosaic.Lib.Tactic

@[expose] public section

set_option maxRecDepth 16384

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all counters zero. -/
def s₀ : MemSt nD τ sig (Elt F) := ⟨m, fun _ => 0, ρ⟩

/-! ## The ring -/

set_option backward.proofsInPublic true in
/-- The device direction `b` sends to: one up for `true`, one down for `false`. -/
def nb (b : Bool) (c : Dev nD) : Dev nD :=
  ⟨if b then (c.val + 1) % 32 else (c.val + 31) % 32, by split <;> exact Nat.mod_lt _ (by decide)⟩

theorem nb_nb (b : Bool) (c : Dev nD) : nb b (nb (!b) c) = c := by revert b c; decide
theorem nb_nb' (b : Bool) (c : Dev nD) : nb (!b) (nb b c) = c := by revert b c; decide

/-- One step in direction `b`, as a permutation of the devices. -/
def step (b : Bool) : Dev nD ≃ Dev nD := ⟨nb b, nb (!b), nb_nb' b, nb_nb b⟩

/-- The number of hops of a direction. -/
def hops (b : Bool) : ℕ := if b then 16 else 15

theorem hops_le (b : Bool) : hops b ≤ 16 := by cases b <;> decide
theorem hops_ge (b : Bool) : 15 ≤ hops b := by cases b <;> decide

set_option backward.proofsInPublic true in
/-- The device whose block slot `h` of device `c`'s direction-`b` buffer is to hold. -/
def src (b : Bool) (c : Dev nD) (h : ℕ) : Dev nD :=
  ⟨if b then (c.val + 31 * h) % 32 else (c.val + h) % 32, by split <;> exact Nat.mod_lt _ (by decide)⟩

theorem src_zero (b : Bool) (c : Dev nD) : src b c 0 = c := by revert b c; decide

/-- A hop keeps the block: slot `h + 1` of the neighbour holds what slot `h` held here. -/
theorem src_hop (b : Bool) (c : Dev nD) (h : ℕ) : src b (nb b c) (h + 1) = src b c h := by
  apply Fin.ext
  have hc : c.val < 32 := c.isLt
  cases b
  · show ((c.val + 31) % 32 + (h + 1)) % 32 = (c.val + h) % 32; omega
  · show ((c.val + 1) % 32 + 31 * (h + 1)) % 32 = (c.val + 31 * h) % 32; omega

/-! ## Cells -/

/-- The DMA semaphore at an index of the signature. -/
def dsem (q : ℕ) : DmaSem sig := ⟨q % 67, Nat.mod_lt _ (by decide)⟩

/-- The index of hop `h`'s send semaphore, and of its receive semaphore. -/
def snd (b : Bool) (h : ℕ) : ℕ := if b then 5 + h else 37 + h
def rcv (b : Bool) (h : ℕ) : ℕ := if b then 21 + h else 52 + h

abbrev barS : Sem sig := (SemArray.scalar (sig.barrier 0 rfl) : Sems sig S_).sem
abbrev bar (c : Dev nD) : GSem nD τ sig := ((c : Thread nD τ), .reg barS)
abbrev cell (c : Dev nD) (q : ℕ) : GSem nD τ sig := ((c : Thread nD τ), .dma (dsem q))

theorem dsem_val {q : ℕ} (hq : q < 67) : (dsem q).val = q := Nat.mod_eq_of_lt hq

theorem dsem_inj {q r : ℕ} (hq : q < 67) (hr : r < 67) (h : dsem q = dsem r) : q = r := by
  rw [← dsem_val hq, ← dsem_val hr, h]

theorem snd_lt {b : Bool} {h : ℕ} (hh : h < hops b) : snd b h < 67 := by
  cases b <;> (simp only [snd, hops, if_true, if_false, Bool.false_eq_true] at hh ⊢; omega)
theorem rcv_lt {b : Bool} {h : ℕ} (hh : h < hops b) : rcv b h < 67 := by
  cases b <;> (simp only [rcv, hops, if_true, if_false, Bool.false_eq_true] at hh ⊢; omega)
theorem snd_ge (b : Bool) (h : ℕ) : 5 ≤ snd b h := by
  cases b <;> (simp only [snd, if_true, if_false, Bool.false_eq_true]; omega)
theorem rcv_ge (b : Bool) (h : ℕ) : 5 ≤ rcv b h := by
  cases b <;> (simp only [rcv, if_true, if_false, Bool.false_eq_true]; omega)

/-! ## Slots -/

/-- A block of `x`. -/
abbrev Blk (F : FTy → Type) [FloatOps F] : Type := S128x4096.Idx → Elt F .i8

def setT (s : ℕ) : Finset S17x128x4096.Idx := Finset.univ.filter fun i => (i 0).val = s
def setF (s : ℕ) : Finset S16x128x4096.Idx := Finset.univ.filter fun i => (i 0).val = s

/-- Contents that hold the block `X` in every slot. -/
def repT (X : Blk F) : S17x128x4096.Idx → Elt F .i8 := fun i => X (ValueIdx.ix2 (i 1) (i 2))
def repF (X : Blk F) : S16x128x4096.Idx → Elt F .i8 := fun i => X (ValueIdx.ix2 (i 1) (i 2))

/-- Slot `s` of device `c`'s direction-`b` buffer, owned at share `q`, holding the block `X`. -/
def slot (b : Bool) (c : Dev nD) (s : ℕ) (q : PosShare TreeShare) (X : Blk F) : sProp 𝕄 :=
  match b with
  | true => (((c : Thread nD τ).loc cc0_scratch0) ↦[setT s]{q} repT X)
  | false => (((c : Thread nD τ).loc cc0_scratch1) ↦[setF s]{q} repF X)

/-- The slot, owned in full, holding anything. -/
def slotAny (b : Bool) (c : Dev nD) (s : ℕ) : sProp 𝕄 :=
  match b with
  | true => iprop(∃ f, (((c : Thread nD τ).loc cc0_scratch0) ↦[setT s]{fullShare} f))
  | false => iprop(∃ f, (((c : Thread nD τ).loc cc0_scratch1) ↦[setF s]{fullShare} f))

instance slot_storable (b : Bool) (c : Dev nD) (s : ℕ) (q) (X : Blk F) :
    BI.Storable (upEmb : UEmb _ 𝕄) (slot b c s q X) := by
  cases b <;> (unfold slot; infer_instance)
instance slotAny_storable (b : Bool) (c : Dev nD) (s : ℕ) :
    BI.Storable (upEmb : UEmb _ 𝕄) (slotAny (F := F) b c s) := by
  cases b <;> (unfold slotAny; infer_instance)

theorem slot_halves (b : Bool) (c : Dev nD) (s : ℕ) (X : Blk F) :
    slot b c s fullShare X ⊣⊢ iprop(slot b c s fullShare.left X ∗ slot b c s fullShare.right X) := by
  cases b
  · exact pointsTo_share (PosShare.mem_left_op_right fullShare)
  · exact pointsTo_share (PosShare.mem_left_op_right fullShare)

theorem slot_any (b : Bool) (c : Dev nD) (s : ℕ) (X : Blk F) :
    slot b c s fullShare X ⊢ slotAny b c s := by
  cases b
  · exact exists_intro (Φ := fun f => (((c : Thread nD τ).loc cc0_scratch1) ↦[setF s]{fullShare} f : sProp 𝕄)) (repF X)
  · exact exists_intro (Φ := fun f => (((c : Thread nD τ).loc cc0_scratch0) ↦[setT s]{fullShare} f : sProp 𝕄)) (repT X)

/-! ## Contents -/

/-- Device `c`'s staged blocks: of `x`, of `w`, and the two scales. -/
def xb (c : Dev nD) : Blk F := (win0_0.blk (0 : Fin 1)).view.read (Elt F) ((s₀ m ρ).mem ((c : Thread nD τ).loc main_arg0))
def wb (c : Dev nD) : S4096x64.Idx → Elt F .i8 := (win0_1.blk (0 : Fin 1)).view.read (Elt F) ((s₀ m ρ).mem ((c : Thread nD τ).loc main_arg1))
def sa (c : Dev nD) : S1.Idx → Elt F .f32 := (win0_2.blk (0 : Fin 1)).view.read (Elt F) ((s₀ m ρ).mem ((c : Thread nD τ).loc main_arg2))
def sb (c : Dev nD) : S1.Idx → Elt F .f32 := (win0_3.blk (0 : Fin 1)).view.read (Elt F) ((s₀ m ρ).mem ((c : Thread nD τ).loc main_arg3))

/-- The block slot `h` of device `c`'s direction-`b` buffer is to hold. -/
def blkAt (b : Bool) (c : Dev nD) (h : ℕ) : Blk F := xb m ρ (src b c h)

/-! ## The schedule -/

/-- The units a copy of one slot credits. -/
abbrev N : ℕ := (((Memref.whole cc0_scratch0 : Memref sig .tc .vmem S17x128x4096 .i8).slice
  (Rect.unit (s := S17x128x4096) ![0, 0, 0] S1x128x4096.size inb_S17x128x4096_S1x128x4096_0_0_0) (fun _ => rfl)).squeeze S128x4096
  squeezes_S1x128x4096_S128x4096).view.dmaCredit

theorem N_pos : 0 < N := View.dmaCredit_pos _ (by decide)

/-- What the neighbour a device sends to in direction `b` hands it at the barrier. -/
def barPay (c : Dev nD) (b : Bool) : sProp 𝕄 := bigSep (Finset.Ico 1 (hops b + 1)) fun s => slotAny b (nb b c) s
def sndPay (b : Bool) (c : Dev nD) (h : ℕ) : sProp 𝕄 := slot b c h fullShare.left (blkAt m ρ b c h)
def rcvPay (b : Bool) (c : Dev nD) (h : ℕ) : sProp 𝕄 := slot b c (h + 1) fullShare (blkAt m ρ b c (h + 1))

/-- The payload of DMA cell `q` of device `c`, by the ranges of the signature. -/
def dmaPay (c : Dev nD) (q : ℕ) : sProp 𝕄 :=
  if q < 21 then sndPay m ρ true c (q - 5) else if q < 37 then rcvPay m ρ true c (q - 21)
  else if q < 52 then sndPay m ρ false c (q - 37) else rcvPay m ρ false c (q - 52)

instance barPay_storable (c : Dev nD) (b : Bool) : BI.Storable (upEmb : UEmb _ 𝕄) (barPay (F := F) c b) := by
  unfold barPay; infer_instance
instance dmaPay_storable (c : Dev nD) (q : ℕ) : BI.Storable (upEmb : UEmb _ 𝕄) (dmaPay m ρ c q) := by
  unfold dmaPay sndPay rcvPay; (repeat' split) <;> infer_instance

/-- A cell's duties of round 0. -/
def cellDuties : SemLoc sig → Finset Bool
  | .reg s => if s = barS then Finset.univ else ∅
  | .dma q => if 5 ≤ q.val then {false} else ∅

/-- One round: two duties of one unit at a barrier, one duty of a slot's credit at a send or receive cell. -/
def Rd : Rounds.Schedule (GSem nD τ sig) Bool 𝕄 where
  duties g r := if r = 0 ∧ g.1.2 = .tc then cellDuties g.2 else ∅
  unitless _ := False
  amount g _ _ := match g.2 with | .reg _ => 1 | .dma _ => N
  payload g _ d := match g.2 with | .reg _ => barPay g.1.1 d | .dma q => dmaPay m ρ g.1.1 q.val
  amount_pos g _ _ _ := by
    rcases g with ⟨t, s | q⟩
    · exact Nat.one_pos
    · exact N_pos

instance Rd_storable (g : GSem nD τ sig) (r : ℕ) (d : Bool) :
    BI.Storable (upEmb : UEmb _ 𝕄) ((Rd (F := F) m ρ).payload g r d) := by
  rcases g with ⟨t, s | q⟩
  · show BI.Storable upEmb (barPay t.1 d); infer_instance
  · show BI.Storable upEmb (dmaPay m ρ t.1 q.val); infer_instance

theorem duties_bar (c : Dev nD) : (Rd (F := F) m ρ).duties (bar c) 0 = Finset.univ := by
  dsimp only [Rd]; rw [if_pos ⟨rfl, rfl⟩]; simp only [cellDuties, if_true]
theorem duties_cell (c : Dev nD) {q : ℕ} (h5 : 5 ≤ q) (hq : q < 67) : (Rd (F := F) m ρ).duties (cell c q) 0 = {false} := by
  dsimp only [Rd]; rw [if_pos ⟨rfl, rfl⟩]
  show (if 5 ≤ (dsem q).val then _ else _) = _
  rw [if_pos (by rw [dsem_val hq]; exact h5)]
theorem duties_later (g : GSem nD τ sig) : ∀ r, 1 ≤ r → (Rd (F := F) m ρ).duties g r = ∅ :=
  fun r hr => if_neg fun h => by omega

theorem amount_bar (c : Dev nD) (d : Bool) : (Rd (F := F) m ρ).amount (bar c) 0 d = 1 := rfl
theorem amount_cell (c : Dev nD) (q : ℕ) (d : Bool) : (Rd (F := F) m ρ).amount (cell c q) 0 d = N := rfl

theorem expect_bar (c : Dev nD) : (Rd (F := F) m ρ).expect (bar c) 0 = 2 := by
  unfold Schedule.expect Schedule.amountOf
  rw [duties_bar]; rfl
theorem expect_cell (c : Dev nD) {q : ℕ} (h5 : 5 ≤ q) (hq : q < 67) : (Rd (F := F) m ρ).expect (cell c q) 0 = N := by
  unfold Schedule.expect Schedule.amountOf
  rw [duties_cell m ρ c h5 hq, Finset.sum_singleton, amount_cell]

theorem payload_bar (c : Dev nD) (d : Bool) : (Rd (F := F) m ρ).payload (bar c) 0 d = barPay c d := rfl

theorem payload_snd (b : Bool) (c : Dev nD) {h : ℕ} (hh : h < hops b) (d : Bool) :
    (Rd (F := F) m ρ).payload (cell c (snd b h)) 0 d = sndPay m ρ b c h := by
  show dmaPay m ρ c (dsem (snd b h)).val = _
  rw [dsem_val (snd_lt hh)]
  cases b <;> simp only [snd, hops, if_true, if_false, Bool.false_eq_true] at hh ⊢
  · unfold dmaPay
    rw [if_neg (by omega), if_neg (by omega), if_pos (by omega), Nat.add_sub_cancel_left]
  · unfold dmaPay
    rw [if_pos (by omega), Nat.add_sub_cancel_left]
theorem payload_rcv (b : Bool) (c : Dev nD) {h : ℕ} (hh : h < hops b) (d : Bool) :
    (Rd (F := F) m ρ).payload (cell c (rcv b h)) 0 d = rcvPay m ρ b c h := by
  show dmaPay m ρ c (dsem (rcv b h)).val = _
  rw [dsem_val (rcv_lt hh)]
  cases b <;> simp only [rcv, hops, if_true, if_false, Bool.false_eq_true] at hh ⊢
  · unfold dmaPay
    rw [if_neg (by omega), if_neg (by omega), if_neg (by omega), Nat.add_sub_cancel_left]
  · unfold dmaPay
    rw [if_neg (by omega), if_pos (by omega), Nat.add_sub_cancel_left]

/-- What the barrier's round hands over: both neighbours' slots. -/
theorem rest_bar (c : Dev nD) : bigSep ((Rd (F := F) m ρ).duties (bar c) 0 \ ∅) (fun d => (Rd (F := F) m ρ).payload (bar c) 0 d)
    = iprop(barPay c false ∗ barPay c true) := by
  rw [Finset.sdiff_empty, duties_bar, bigSep_univ_eq_bigSepL [false, true] (by decide) (by decide), bigSepL_cons_cons, bigSepL_singleton]
  rfl
theorem rest_snd (b : Bool) (c : Dev nD) {h : ℕ} (hh : h < hops b) :
    bigSep ((Rd (F := F) m ρ).duties (cell c (snd b h)) 0 \ ∅) (fun d => (Rd (F := F) m ρ).payload (cell c (snd b h)) 0 d) = sndPay m ρ b c h := by
  rw [Finset.sdiff_empty, duties_cell m ρ c (snd_ge b h) (snd_lt hh), bigSep_singleton, payload_snd m ρ b c hh]
theorem rest_rcv (b : Bool) (c : Dev nD) {h : ℕ} (hh : h < hops b) :
    bigSep ((Rd (F := F) m ρ).duties (cell c (rcv b h)) 0 \ ∅) (fun d => (Rd (F := F) m ρ).payload (cell c (rcv b h)) 0 d) = rcvPay m ρ b c h := by
  rw [Finset.sdiff_empty, duties_cell m ρ c (rcv_ge b h) (rcv_lt hh), bigSep_singleton, payload_rcv m ρ b c hh]

/-! ## What a device owes, and the levels -/

/-- The credits device `c` still owes its direction-`b` neighbour once it has started `i` hops. -/
def owed (b : Bool) (c : Dev nD) (i : ℕ) : CellTallies nD τ sig Unit :=
  ∑ p ∈ Finset.Ico i (hops b), tallyAt (cell (nb b c) (rcv b p)) () N

theorem owed_step {b : Bool} {c : Dev nD} {i : ℕ} (hi : i < hops b) :
    owed b c i = owed b c (i + 1) + tallyAt (cell (nb b c) (rcv b i)) () N := by
  unfold owed; rw [Finset.sum_eq_sum_Ico_succ_bot hi, add_comm]
theorem owed_end {b : Bool} {c : Dev nD} {i : ℕ} (hi : hops b ≤ i) : owed b c i = 0 := by
  unfold owed; rw [Finset.Ico_eq_empty_of_le hi, Finset.sum_empty]

/-- At launch: every hop's credit and a unit to each neighbour's barrier, the lower neighbour's summed last. -/
def O₁ (c : Dev nD) : CellTallies nD τ sig Unit := (owed true c 0 + owed false c 0) + tallyAt (bar (nb true c)) () 1
def O₀ (c : Dev nD) : CellTallies nD τ sig Unit := O₁ c + tallyAt (bar (nb false c)) () 1

def L (g : GSem nD τ sig) : Finset Unit := if g.1.2 = .tc then {()} else ∅

/-- The level of the DMA semaphore at index `q`. -/
def dlev (q : ℕ) : ℕ := if q < 21 then 0 else if q < 37 then 2 + 2 * (q - 21) else if q < 52 then 0 else 3 + 2 * (q - 52)
def lv (g : GSem nD τ sig) (_ : Unit) : ℕ := match g.2 with | .reg _ => 1 | .dma q => dlev q.val

theorem L_of_ne (g : GSem nD τ sig) (h : g.1.2 ≠ .tc) : L g = ∅ := if_neg h
theorem L_tc (c : Dev nD) (sm : SemLoc sig) : L ((c : Thread nD τ), sm) = {()} := if_pos rfl

/-- The level of hop `h`'s receive semaphore. -/
def rlev (b : Bool) (h : ℕ) : ℕ := if b then 2 + 2 * h else 3 + 2 * h

theorem lv_rcv (c : Dev nD) {b : Bool} {h : ℕ} (hh : h < hops b) : lv (cell c (rcv b h)) () = rlev b h := by
  show dlev (dsem (rcv b h)).val = _
  rw [dsem_val (rcv_lt hh)]
  cases b <;> simp only [rcv, rlev, hops, if_true, if_false, Bool.false_eq_true] at hh ⊢ <;> unfold dlev
  · rw [if_neg (by omega), if_neg (by omega), if_neg (by omega), Nat.add_sub_cancel_left]
  · rw [if_neg (by omega), if_pos (by omega), Nat.add_sub_cancel_left]

theorem owed_pos {b : Bool} {c : Dev nD} {i : ℕ} {g : GSem nD τ sig} {u : Unit} (h : 0 < owed b c i g u) :
    ∃ p, i ≤ p ∧ p < hops b ∧ g = cell (nb b c) (rcv b p) := by
  unfold owed at h
  rw [Finset.sum_apply, Finsupp.finset_sum_apply] at h
  obtain ⟨p, hp, hpos⟩ := Finset.exists_ne_zero_of_sum_ne_zero (Nat.pos_iff_ne_zero.mp h)
  rw [tallyAt_apply] at hpos
  rw [Finset.mem_Ico] at hp
  refine ⟨p, hp.1, hp.2, ?_⟩
  by_contra hn
  exact hpos (if_neg fun h' => hn h'.1)

/-- What is owed lies on receive cells: a wait at a level below all of those still owed is allowed. -/
theorem mayWait_owed (c : Dev nD) (sm : SemLoc sig) (cut i j : ℕ) (hs : lv ((c : Thread nD τ), sm) () ≤ cut)
    (hi : ∀ p, i ≤ p → p < 16 → cut < rlev true p) (hj : ∀ p, j ≤ p → p < 15 → cut < rlev false p) :
    (levAts L lv : sProp 𝕄) ⊢ MayWait (c : Thread nD τ) sm () (owed true c i + owed false c j) := by
  have key : ∀ g u, 0 < (owed true c i + owed false c j) g u → ∃ b p, p < hops b ∧ cut < rlev b p ∧ g = cell (nb b c) (rcv b p) := by
    intro g u hg
    rw [Pi.add_apply, Finsupp.add_apply] at hg
    rcases Nat.eq_zero_or_pos (owed true c i g u) with h0 | h0
    · rw [h0, Nat.zero_add] at hg
      obtain ⟨p, h1, h2, h3⟩ := owed_pos hg
      exact ⟨false, p, h2, hj p h1 h2, h3⟩
    · obtain ⟨p, h1, h2, h3⟩ := owed_pos h0
      exact ⟨true, p, h2, hi p h1 h2, h3⟩
  refine MayOwe.of_cut (L := L) (lev := lv) cut
    (fun p hp => by rw [Finset.mem_singleton.mp hp, L_tc]; exact Finset.mem_singleton_self _)
    (fun g u hg => by obtain ⟨b, p, -, -, rfl⟩ := key g u hg; exact Finset.mem_singleton_self _)
    (fun p hp => by rw [Finset.mem_singleton.mp hp]; exact hs)
    (fun g u hg => by obtain ⟨b, p, h1, h2, rfl⟩ := key g u hg; rw [lv_rcv _ h1]; exact h2)

/-- A staging cell may be waited for whatever of `O₀` is owed. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · have key : ∀ g u, 0 < O₀ c g u → (∃ d, g = bar d) ∨ ∃ b p, p < hops b ∧ g = cell (nb b c) (rcv b p) := by
      intro g u hg
      unfold O₀ O₁ at hg
      simp only [Pi.add_apply, Finsupp.add_apply, tallyAt_apply] at hg
      by_cases h1 : g = bar (nb true c)
      · exact Or.inl ⟨_, h1⟩
      by_cases h2 : g = bar (nb false c)
      · exact Or.inl ⟨_, h2⟩
      rw [if_neg (fun h' => h1 h'.1), if_neg (fun h' => h2 h'.1)] at hg
      try simp only [Nat.add_zero] at hg
      rcases Nat.eq_zero_or_pos (owed true c 0 g u) with h0 | h0
      · rw [h0, Nat.zero_add] at hg
        obtain ⟨p, -, hp, h3⟩ := owed_pos hg
        exact Or.inr ⟨false, p, hp, h3⟩
      · obtain ⟨p, -, hp, h3⟩ := owed_pos h0
        exact Or.inr ⟨true, p, hp, h3⟩
    refine MayOwe.of_cut (L := L) (lev := lv) 0
      (fun p hp => by rw [Finset.mem_singleton.mp hp, L_tc]; exact Finset.mem_singleton_self _)
      (fun g u hg => by rcases key g u hg with ⟨d, rfl⟩ | ⟨b, p, -, rfl⟩ <;> exact Finset.mem_singleton_self _)
      (fun p hp => by
        rw [Finset.mem_singleton.mp hp]
        show dlev q.val ≤ 0
        unfold dlev; rw [if_pos (by omega)])
      (fun g u hg => by
        rcases key g u hg with ⟨d, rfl⟩ | ⟨b, p, hp, rfl⟩
        · exact Nat.one_pos
        · rw [lv_rcv _ hp]; cases b <;> simp only [rlev, if_true, if_false, Bool.false_eq_true] <;> omega)
  · rw [MayWait_zero]; iintro -; iempintro

end Cert.KernelIdeal.Gather

end
-- ==== Proof.Ideal.Slots.lean ====
/-
# The slots, as the kernel's views see them

The kernel reaches slot `s` of a landing buffer in two ways: through the slice of the buffer at `s`, its unit axis
dropped (the two ends of a copy), and through a load or store at the same rectangle. Here both are related to the
slot's assertion (`slot`): the elements are the slot's, and the contents read as the slot's block.
-/
module

public import proofs.«01_k».proof.Proof.Ideal.Protocol

@[expose] public section

set_option maxRecDepth 16384

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The slice of the clockwise buffer at slot `s`, and of the counter-clockwise one. -/
abbrev memT (s : ℕ) (inb : ∀ a, (![s, 0, 0] : Fin 3 → Nat) a + S1x128x4096.size a ≤ S17x128x4096.size a) :
    Memref sig .tc .vmem S128x4096 .i8 :=
  ((Memref.whole cc0_scratch0 : Memref sig .tc .vmem S17x128x4096 .i8).slice
    (Rect.unit (s := S17x128x4096) ![s, 0, 0] S1x128x4096.size inb) (fun _ => rfl)).squeeze S128x4096 squeezes_S1x128x4096_S128x4096
abbrev memF (s : ℕ) (inb : ∀ a, (![s, 0, 0] : Fin 3 → Nat) a + S1x128x4096.size a ≤ S16x128x4096.size a) :
    Memref sig .tc .vmem S128x4096 .i8 :=
  ((Memref.whole cc0_scratch1 : Memref sig .tc .vmem S16x128x4096 .i8).slice
    (Rect.unit (s := S16x128x4096) ![s, 0, 0] S1x128x4096.size inb) (fun _ => rfl)).squeeze S128x4096 squeezes_S1x128x4096_S128x4096

/-- The memref `M` is slot `s` of the direction-`b` buffer: a device's slot holding `X` is `M`'s elements at any
    contents that read as `X`, and the slot holding anything is `M`'s elements at any contents. -/
structure IsSlot (b : Bool) (s : ℕ) (M : Memref sig .tc .vmem S128x4096 .i8) : Prop where
  at_eq : ∀ (F : FTy → Type) [FloatOps F] (c : Dev nD) (q : PosShare TreeShare) (X : Blk F) (f : Buf (Elt F) (M.view.loc (c : Thread nD τ))),
    M.view.read (Elt F) f = X →
      (slot b c s q X : sProp (MT nD τ sig Unit (Elt F) ℕ UU ℕ)) = (M.view.loc (c : Thread nD τ) ↦[M.view.set]{q} f)
  any_eq : ∀ (F : FTy → Type) [FloatOps F] (c : Dev nD),
    (slotAny b c s : sProp (MT nD τ sig Unit (Elt F) ℕ UU ℕ)) = iprop(∃ f, M.view.loc (c : Thread nD τ) ↦[M.view.set]{fullShare} f)
  some_read : ∀ (F : FTy → Type) [FloatOps F] (c : Dev nD) (X : Blk F),
    ∃ f : Buf (Elt F) (M.view.loc (c : Thread nD τ)), M.view.read (Elt F) f = X
  credit : M.view.dmaCredit = N

section Clockwise
variable {s : ℕ} (inb : ∀ a, (![s, 0, 0] : Fin 3 → Nat) a + S1x128x4096.size a ≤ S17x128x4096.size a)

abbrev rectT : Rect S17x128x4096 := Rect.unit (s := S17x128x4096) ![s, 0, 0] S1x128x4096.size inb

theorem mem_rectT (i : S17x128x4096.Idx) : i ∈ (rectT inb).set ↔ (i 0).val = s := by
  rw [Rect.mem_set_unit]
  constructor
  · intro h
    have h0 := h 0
    change s ≤ (i 0).val ∧ (i 0).val < s + 1 at h0
    omega
  · intro h a
    match a with
    | ⟨0, _⟩ => exact ⟨h.ge, by show (i 0).val < s + 1; omega⟩
    | ⟨1, _⟩ => exact ⟨Nat.zero_le _, by show (i 1).val < 0 + 128; have := (i 1).isLt; change (i 1).val < 128 at this; omega⟩
    | ⟨2, _⟩ => exact ⟨Nat.zero_le _, by show (i 2).val < 0 + 4096; have := (i 2).isLt; change (i 2).val < 4096 at this; omega⟩

theorem rectT_set : (rectT inb).set = setT s := by
  ext i; rw [mem_rectT]; unfold setT; rw [Finset.mem_filter]; exact ⟨fun h => ⟨Finset.mem_univ _, h⟩, fun h => h.2⟩

theorem memT_set : (memT s inb).view.set = setT s := by
  show (((View.whole cc0_scratch0).slice (rectT inb)).reshape S128x4096 _).set = _
  rw [View.set_reshape, View.set_slice_whole, rectT_set]

/-- The slice read at a row and a column is the buffer there. -/
theorem memT_read (f : S17x128x4096.Idx → Elt F .i8) (i : S17x128x4096.Idx) (hi : (i 0).val = s) :
    (memT s inb).view.read (Elt F) f (ValueIdx.ix2 (i 1) (i 2)) = f i := by
  show shapeCast S128x4096 ((Memref.whole cc0_scratch0 : Memref sig .tc .vmem S17x128x4096 .i8).view.readAt (Elt F) (rectT inb).toLoadRect f)
    shapeCasts_S1x128x4096_S128x4096 (ValueIdx.ix2 (i 1) (i 2)) = f i
  refine (ValueIdx.shapeCast_1ab_ab_apply (a := 128) (b := 4096) _ _ _ _).trans ?_
  refine congrArg f (funext fun a => Fin.ext ?_)
  match a with
  | ⟨0, _⟩ => show s + 1 * 0 = (i 0).val; omega
  | ⟨1, _⟩ => show 0 + 1 * (i 1).val = (i 1).val; omega
  | ⟨2, _⟩ => show 0 + 1 * (i 2).val = (i 2).val; omega

theorem memT_read_rep (X : Blk F) : (memT s inb).view.read (Elt F) (repT X) = X := by
  funext z
  have hs : s < 17 := by have := inb 0; change s + 1 ≤ 17 at this; omega
  have := memT_read inb (repT X) (ValueIdx.ix3 (⟨s, hs⟩ : Fin 17) (z 0) (z 1)) rfl
  rw [show z = ValueIdx.ix2 (z 0) (z 1) from ValueIdx.eq_ix2 z]
  exact this

theorem isSlotT : IsSlot true s (memT s inb) where
  at_eq F _ c q X f hf := by
    show (((c : Thread nD τ).loc cc0_scratch0) ↦[setT s]{q} repT X) = (((c : Thread nD τ).loc cc0_scratch0) ↦[(memT s inb).view.set]{q} f)
    rw [memT_set]
    refine pointsTo_congr fun i hi => ?_
    rw [← memT_read inb f i (Finset.mem_filter.mp hi).2, hf]; rfl
  any_eq F _ c := by
    show iprop(∃ f, (((c : Thread nD τ).loc cc0_scratch0) ↦[setT s]{fullShare} f)) = iprop(∃ f, (((c : Thread nD τ).loc cc0_scratch0) ↦[(memT s inb).view.set]{fullShare} f))
    rw [memT_set]
  some_read F _ c X := ⟨repT X, memT_read_rep inb X⟩
  credit := rfl

end Clockwise

section CounterClockwise
variable {s : ℕ} (inb : ∀ a, (![s, 0, 0] : Fin 3 → Nat) a + S1x128x4096.size a ≤ S16x128x4096.size a)

abbrev rectF : Rect S16x128x4096 := Rect.unit (s := S16x128x4096) ![s, 0, 0] S1x128x4096.size inb

theorem mem_rectF (i : S16x128x4096.Idx) : i ∈ (rectF inb).set ↔ (i 0).val = s := by
  rw [Rect.mem_set_unit]
  constructor
  · intro h
    have h0 := h 0
    change s ≤ (i 0).val ∧ (i 0).val < s + 1 at h0
    omega
  · intro h a
    match a with
    | ⟨0, _⟩ => exact ⟨h.ge, by show (i 0).val < s + 1; omega⟩
    | ⟨1, _⟩ => exact ⟨Nat.zero_le _, by show (i 1).val < 0 + 128; have := (i 1).isLt; change (i 1).val < 128 at this; omega⟩
    | ⟨2, _⟩ => exact ⟨Nat.zero_le _, by show (i 2).val < 0 + 4096; have := (i 2).isLt; change (i 2).val < 4096 at this; omega⟩

theorem rectF_set : (rectF inb).set = setF s := by
  ext i; rw [mem_rectF]; unfold setF; rw [Finset.mem_filter]; exact ⟨fun h => ⟨Finset.mem_univ _, h⟩, fun h => h.2⟩

theorem memF_set : (memF s inb).view.set = setF s := by
  show (((View.whole cc0_scratch1).slice (rectF inb)).reshape S128x4096 _).set = _
  rw [View.set_reshape, View.set_slice_whole, rectF_set]

/-- The slice read at a row and a column is the buffer there. -/
theorem memF_read (f : S16x128x4096.Idx → Elt F .i8) (i : S16x128x4096.Idx) (hi : (i 0).val = s) :
    (memF s inb).view.read (Elt F) f (ValueIdx.ix2 (i 1) (i 2)) = f i := by
  show shapeCast S128x4096 ((Memref.whole cc0_scratch1 : Memref sig .tc .vmem S16x128x4096 .i8).view.readAt (Elt F) (rectF inb).toLoadRect f)
    shapeCasts_S1x128x4096_S128x4096 (ValueIdx.ix2 (i 1) (i 2)) = f i
  refine (ValueIdx.shapeCast_1ab_ab_apply (a := 128) (b := 4096) _ _ _ _).trans ?_
  refine congrArg f (funext fun a => Fin.ext ?_)
  match a with
  | ⟨0, _⟩ => show s + 1 * 0 = (i 0).val; omega
  | ⟨1, _⟩ => show 0 + 1 * (i 1).val = (i 1).val; omega
  | ⟨2, _⟩ => show 0 + 1 * (i 2).val = (i 2).val; omega

theorem memF_read_rep (X : Blk F) : (memF s inb).view.read (Elt F) (repF X) = X := by
  funext z
  have hs : s < 16 := by have := inb 0; change s + 1 ≤ 16 at this; omega
  have := memF_read inb (repF X) (ValueIdx.ix3 (⟨s, hs⟩ : Fin 16) (z 0) (z 1)) rfl
  rw [show z = ValueIdx.ix2 (z 0) (z 1) from ValueIdx.eq_ix2 z]
  exact this

theorem isSlotF : IsSlot false s (memF s inb) where
  at_eq F _ c q X f hf := by
    show (((c : Thread nD τ).loc cc0_scratch1) ↦[setF s]{q} repF X) = (((c : Thread nD τ).loc cc0_scratch1) ↦[(memF s inb).view.set]{q} f)
    rw [memF_set]
    refine pointsTo_congr fun i hi => ?_
    rw [← memF_read inb f i (Finset.mem_filter.mp hi).2, hf]; rfl
  any_eq F _ c := by
    show iprop(∃ f, (((c : Thread nD τ).loc cc0_scratch1) ↦[setF s]{fullShare} f)) = iprop(∃ f, (((c : Thread nD τ).loc cc0_scratch1) ↦[(memF s inb).view.set]{fullShare} f))
    rw [memF_set]
  some_read F _ c X := ⟨repF X, memF_read_rep inb X⟩
  credit := rfl

end CounterClockwise

end Cert.KernelIdeal.Gather

end
-- ==== Proof.Ideal.State.lean ====
/-
# The state of a device inside the kernel

How far a device has come is eight numbers: for each direction the hops started, the arrivals met and the sends waited
for, and the chunks stored from each direction. `Dir` is what a device holds of one direction at given numbers, with
one lemma per kind of step; `Out` is its result buffer, right in the rows of every chunk stored; `St` is all of it.
-/
module

public import proofs.«01_k».proof.Proof.Ideal.Slots
public import Idealize.ShloMosaic.Lib.WritesUnit
public import Idealize.SL.BI.BigOpNat

@[expose] public section

set_option maxRecDepth 16384

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The first, and the last, of a range. -/
theorem ico_bot {a b : ℕ} (h : a < b) (Φ : ℕ → sProp 𝕄) :
    bigSep (Finset.Ico a b) Φ = iprop(Φ a ∗ bigSep (Finset.Ico (a + 1) b) Φ) := bigSep_Ico_succ_bot h Φ
theorem ico_top {a b : ℕ} (h : a ≤ b) (Φ : ℕ → sProp 𝕄) :
    bigSep (Finset.Ico a (b + 1)) Φ = iprop(Φ b ∗ bigSep (Finset.Ico a b) Φ) := bigSep_Ico_succ_top h Φ

theorem set_at {S : Finset ℕ} {h : ℕ} (hh : h ∈ S) (Φ : ℕ → sProp 𝕄) :
    bigSep S Φ = iprop(Φ h ∗ bigSep (S.erase h) Φ) := bigSep_erase hh

/-! ## The cells by number, and what is known of all of them -/

/-- A device's sixty-three cells: sixty-two copies' semaphores and the barrier. -/
def csem (k : Fin 63) : SemLoc sig := if k.val < 62 then .dma (dsem (5 + k.val)) else .reg barS
def kcell (ck : Dev nD × Fin 63) : GSem nD τ sig := ((ck.1 : Thread nD τ), csem ck.2)

set_option backward.proofsInPublic true in
/-- The number of the copy semaphore at index `q`. -/
def kq (q : ℕ) : Fin 63 := ⟨(q - 5) % 62, by omega⟩

theorem kcell_dma (c : Dev nD) {q : ℕ} (h5 : 5 ≤ q) (hq : q < 67) : kcell (c, kq q) = cell c q := by
  have h1 : (kq q).val = q - 5 := Nat.mod_eq_of_lt (by omega)
  show (((c : Thread nD τ), if (kq q).val < 62 then SemLoc.dma (dsem (5 + (kq q).val)) else SemLoc.reg barS) : GSem nD τ sig) = _
  rw [h1, if_pos (by omega), show 5 + (q - 5) = q by omega]
theorem kcell_bar (c : Dev nD) : kcell (c, 62) = bar c := rfl

variable (K : Dev nD × Fin 63 → ℕ)

/-- Every cell's invariant, under the names it was allocated at, and that every cell is at round 0 or later. -/
def records : sProp 𝕄 :=
  iprop((bigSep Finset.univ fun ck : Dev nD × Fin 63 => cellInv ER (Rd m ρ) (K ck) (kcell ck))
    ∗ bigSep Finset.univ fun ck : Dev nD × Fin 63 => reached ER (kcell ck) 0)

instance records_persistent : BI.Persistent (records (F := F) m ρ K) := by unfold records; infer_instance

theorem rec_at (ck : Dev nD × Fin 63) : records (F := F) m ρ K ⊢ iprop(cellInv ER (Rd m ρ) (K ck) (kcell ck) ∗ reached ER (kcell ck) 0) := by
  unfold records
  exact BIClass.sep_mono (bigSep_elim (Finset.mem_univ ck)) (bigSep_elim (Finset.mem_univ ck))
theorem rec_dma (c : Dev nD) {q : ℕ} (h5 : 5 ≤ q) (hq : q < 67) :
    records (F := F) m ρ K ⊢ iprop(cellInv ER (Rd m ρ) (K (c, kq q)) (cell c q) ∗ reached ER (cell c q) 0) := by
  have := rec_at m ρ K (c, kq q)
  rw [kcell_dma c h5 hq] at this
  exact this
theorem rec_snd (c : Dev nD) {b : Bool} {h : ℕ} (hh : h < hops b) :
    records (F := F) m ρ K ⊢ iprop(cellInv ER (Rd m ρ) (K (c, kq (snd b h))) (cell c (snd b h)) ∗ reached ER (cell c (snd b h)) 0) :=
  rec_dma m ρ K c (snd_ge b h) (snd_lt hh)
theorem rec_rcv (c : Dev nD) {b : Bool} {h : ℕ} (hh : h < hops b) :
    records (F := F) m ρ K ⊢ iprop(cellInv ER (Rd m ρ) (K (c, kq (rcv b h))) (cell c (rcv b h)) ∗ reached ER (cell c (rcv b h)) 0) :=
  rec_dma m ρ K c (rcv_ge b h) (rcv_lt hh)
theorem rec_bar (c : Dev nD) :
    records (F := F) m ρ K ⊢ iprop(cellInv ER (Rd m ρ) (K (c, 62)) (bar c) ∗ reached ER (bar c) 0) := rec_at m ρ K (c, 62)

/-! ## One direction's state -/

/-- What a hop still to be started needs: the two duties it pays, and the neighbour's slot it lands in. -/
def todo (b : Bool) (c : Dev nD) (h : ℕ) : sProp 𝕄 :=
  iprop(dutyTok ER (cell (nb b c) (rcv b h)) 0 false ∗ dutyTok ER (cell c (snd b h)) 0 false ∗ slotAny b (nb b c) (h + 1))
/-- What the wait for an arrival needs. -/
def arr (b : Bool) (c : Dev nD) (h : ℕ) : sProp 𝕄 :=
  iprop(cred (tallyAt (cell c (rcv b h)) () N) ∗ atPos ER (cell c (rcv b h)) 0 ∅ 0)
/-- A started hop's credit at its own send semaphore. -/
def fly (b : Bool) (c : Dev nD) (h : ℕ) : sProp 𝕄 := cred (tallyAt (cell c (snd b h)) () N)
def spos (b : Bool) (c : Dev nD) (h : ℕ) : sProp 𝕄 := atPos ER (cell c (snd b h)) 0 ∅ 0
/-- A slot's half that stays, and the half that a copy borrows. -/
def kept (b : Bool) (c : Dev nD) (h : ℕ) : sProp 𝕄 := slot b c h fullShare.right (blkAt m ρ b c h)
def lent (b : Bool) (c : Dev nD) (h : ℕ) : sProp 𝕄 := slot b c h fullShare.left (blkAt m ρ b c h)
/-- A receive semaphore, and a send semaphore, that has been waited for. -/
def rdone (b : Bool) (c : Dev nD) (h : ℕ) : sProp 𝕄 := atPos ER (cell c (rcv b h)) (0 + 1) ∅ 0
def sdone (b : Bool) (c : Dev nD) (h : ℕ) : sProp 𝕄 := atPos ER (cell c (snd b h)) (0 + 1) ∅ 0

/-- Direction `b` of device `c`: `i` hops started, `j` arrivals met, `s` sends waited for. -/
def Dir (b : Bool) (c : Dev nD) (i j s : ℕ) : sProp 𝕄 :=
  iprop(bigSep (Finset.Ico i (hops b)) (todo b c) ∗ bigSep (Finset.Ico j (hops b)) (arr b c)
    ∗ bigSep (Finset.Ico s i) (fly b c) ∗ bigSep (Finset.Ico s (hops b)) (spos b c)
    ∗ bigSep (Finset.Ico 0 (j + 1)) (kept m ρ b c) ∗ bigSep (Finset.Ico i (j + 1)) (lent m ρ b c) ∗ bigSep (Finset.Ico 0 s) (lent m ρ b c)
    ∗ bigSep (Finset.Ico 0 j) (rdone b c) ∗ bigSep (Finset.Ico 0 s) (sdone b c))

/-- To start hop `i`: its duties, its landing slot and the half of its own slot come out; the send credit goes in. -/
theorem dir_start {b : Bool} {c : Dev nD} {i j s : ℕ} (hi : i < hops b) (hij : i ≤ j) (hs : s ≤ i) :
    Dir m ρ b c i j s ⊢ iprop(todo b c i ∗ lent m ρ b c i ∗ (fly b c i -∗ Dir m ρ b c (i + 1) j s)) := by
  unfold Dir
  rw [ico_bot hi, ico_bot (Nat.lt_succ_of_le hij) (lent m ρ b c), ico_top hs (fly b c)]
  iintro ⟨⟨Ht, H1⟩, H2, H3, H4, H5, ⟨Hl, H6⟩, H7, H8, H9⟩
  isplitl [Ht]; · iexact Ht
  isplitl [Hl]; · iexact Hl
  iintro Hf
  isplitl [H1]; · iexact H1
  isplitl [H2]; · iexact H2
  isplitl [H3 Hf]
  · isplitl [Hf] <;> iassumption
  isplitl [H4]; · iexact H4
  isplitl [H5]; · iexact H5
  isplitl [H6]; · iexact H6
  isplitl [H7]; · iexact H7
  isplitl [H8] <;> iassumption

theorem rcvPay_halves (b : Bool) (c : Dev nD) (j : ℕ) : rcvPay m ρ b c j ⊢ iprop(lent m ρ b c (j + 1) ∗ kept m ρ b c (j + 1)) :=
  (slot_halves b c (j + 1) (blkAt m ρ b c (j + 1))).1

/-- To meet arrival `j`: its credit and position come out; the waited-for semaphore and the slot, in full, go in. -/
theorem dir_recv {b : Bool} {c : Dev nD} {i j s : ℕ} (hj : j < hops b) (hij : i ≤ j + 1) :
    Dir m ρ b c i j s ⊢ iprop(arr b c j ∗ ((rdone b c j ∗ rcvPay m ρ b c j) -∗ Dir m ρ b c i (j + 1) s)) := by
  unfold Dir
  rw [ico_bot hj, ico_top (Nat.zero_le (j + 1)) (kept m ρ b c), ico_top hij (lent m ρ b c),
    ico_top (Nat.zero_le j) (rdone b c)]
  iintro ⟨H1, ⟨Ha, H2⟩, H3, H4, H5, H6, H7, H8, H9⟩
  isplitl [Ha]; · iexact Ha
  iintro ⟨Hr, Hp⟩
  ihave Hp := (rcvPay_halves m ρ b c j) $$ Hp
  icases Hp with ⟨Hl, Hr'⟩
  isplitl [H1]; · iexact H1
  isplitl [H2]; · iexact H2
  isplitl [H3]; · iexact H3
  isplitl [H4]; · iexact H4
  isplitl [H5 Hr']
  · isplitl [Hr']; · iexact Hr'
    iexact H5
  isplitl [H6 Hl]
  · isplitl [Hl]; · iexact Hl
    iexact H6
  isplitl [H7]; · iexact H7
  isplitl [H8 Hr]
  · isplitl [Hr] <;> iassumption
  iexact H9

/-- To read slot `h`: its half that stays comes out and goes back. -/
theorem dir_read {b : Bool} {c : Dev nD} {i j s h : ℕ} (hh : h ≤ j) :
    Dir m ρ b c i j s ⊢ iprop(kept m ρ b c h ∗ (kept m ρ b c h -∗ Dir m ρ b c i j s)) := by
  unfold Dir
  iintro ⟨H1, H2, H3, H4, H5, H6, H7, H8, H9⟩
  ihave H5 := (Entails.of_eq (set_at (Finset.mem_Ico.mpr ⟨Nat.zero_le _, Nat.lt_succ_of_le hh⟩) (kept m ρ b c))) $$ H5
  icases H5 with ⟨Hk, H5⟩
  isplitl [Hk]; · iexact Hk
  iintro Hk
  isplitl [H1]; · iexact H1
  isplitl [H2]; · iexact H2
  isplitl [H3]; · iexact H3
  isplitl [H4]; · iexact H4
  isplitl [H5 Hk]
  · iapply (Entails.of_eq (set_at (Finset.mem_Ico.mpr ⟨Nat.zero_le _, Nat.lt_succ_of_le hh⟩) (kept m ρ b c)).symm)
    isplitl [Hk] <;> iassumption
  isplitl [H6]; · iexact H6
  isplitl [H7]; · iexact H7
  isplitl [H8] <;> iassumption

/-- To wait for send `s`: its credit and position come out; the waited-for semaphore and the lent half go in. -/
theorem dir_sent {b : Bool} {c : Dev nD} {i j s : ℕ} (hs : s < i) (hi : i ≤ hops b) :
    Dir m ρ b c i j s ⊢ iprop((fly b c s ∗ spos b c s) ∗ ((sdone b c s ∗ sndPay m ρ b c s) -∗ Dir m ρ b c i j (s + 1))) := by
  unfold Dir
  rw [ico_bot hs, ico_bot (show s < hops b by omega), ico_top (Nat.zero_le s) (lent m ρ b c),
    ico_top (Nat.zero_le s) (sdone b c)]
  iintro ⟨H1, H2, ⟨Hf, H3⟩, ⟨Hs, H4⟩, H5, H6, H7, H8, H9⟩
  isplitl [Hf Hs]
  · isplitl [Hf] <;> iassumption
  iintro ⟨Hd, Hp⟩
  isplitl [H1]; · iexact H1
  isplitl [H2]; · iexact H2
  isplitl [H3]; · iexact H3
  isplitl [H4]; · iexact H4
  isplitl [H5]; · iexact H5
  isplitl [H6]; · iexact H6
  isplitl [H7 Hp]
  · isplitl [Hp]
    · iapply (Entails.of_eq (show sndPay m ρ b c s = lent m ρ b c s from rfl)); iexact Hp
    iexact H7
  isplitl [H8]; · iexact H8
  isplitl [Hd] <;> iassumption

/-- A direction at its end: every slot whole, every semaphore waited for. -/
theorem dir_end (b : Bool) (c : Dev nD) :
    Dir m ρ b c (hops b) (hops b) (hops b) ⊢ iprop(bigSep (Finset.Ico 0 (hops b + 1)) (fun h => slot b c h fullShare (blkAt m ρ b c h))
      ∗ bigSep (Finset.Ico 0 (hops b)) (rdone b c) ∗ bigSep (Finset.Ico 0 (hops b)) (sdone b c)) := by
  unfold Dir
  have hj : bigSep (Finset.Ico 0 (hops b + 1)) (fun h => slot b c h fullShare (blkAt m ρ b c h))
      = iprop(bigSep (Finset.Ico 0 (hops b + 1)) (lent m ρ b c) ∗ bigSep (Finset.Ico 0 (hops b + 1)) (kept m ρ b c)) := by
    rw [← bigSep_sep']
    exact bigSep_congr fun h _ => Entails.antisymm (slot_halves b c h _).1 (slot_halves b c h _).2
  rw [hj, ico_top (Nat.zero_le (hops b)) (lent m ρ b c), ico_bot (Nat.lt_succ_self (hops b)) (lent m ρ b c),
    Finset.Ico_self, Finset.Ico_self, bigSep_empty]
  iintro ⟨-, -, -, -, H5, ⟨H6, -⟩, H7, H8, H9⟩
  isplitl [H5 H6 H7]
  · isplitl [H6 H7]
    · isplitl [H6] <;> iassumption
    iexact H5
  isplitl [H8] <;> iassumption

/-! ## The result -/

set_option backward.proofsInPublic true in
/-- The product of the two scales. -/
def gs (c : Dev nD) : F .f32 := k0_pay1 (sa m ρ c (fun a => ⟨0, by revert a; decide⟩)) (sb m ρ c (fun a => ⟨0, by revert a; decide⟩))

/-- A block of `x` times a device's columns of `w`, scaled, times its own logistic. -/
def chunk (g : F .f32) (w : IVec S4096x64 8) (X : IVec S128x4096 8) : FVec F S128x64 .f32 :=
  let y : FVec F S128x64 .f32 := mulf (sitofp .f32 (matmulI8 IntMxuNumerics.v7x dot_S128x4096_S4096x64_S128x64_1_0_0_1_n_n X w (constantI S128x64 32 0#32)))
    (broadcast S128x64 g)
  mulf y (logistic y)

/-- The chunk device `c` computes from device `o`'s block. -/
def chunkAt (c o : Dev nD) : FVec F S128x64 .f32 := chunk (gs m ρ c) (wb m ρ c) (xb m ρ o)

set_option backward.proofsInPublic true in
/-- The device whose block a row belongs to, and the row within it. -/
def rowDev (r : Fin 4096) : Dev nD := ⟨r.val / 128, by have := r.isLt; show _ < 32; omega⟩
set_option backward.proofsInPublic true in
def rowIn (r : Fin 4096) : Fin 128 := ⟨r.val % 128, Nat.mod_lt _ (by decide)⟩

/-- The finished result of device `c`. -/
def outAt (c : Dev nD) : S4096x64.Idx → Elt F .f32 := fun i => chunkAt m ρ c (rowDev (i 0)) (ValueIdx.ix2 (rowIn (i 0)) (i 1))

/-- The chunk of device `o` has been stored, `a` clockwise slots and, from slot 1, `a'` counter-clockwise ones being done. -/
def Done (c : Dev nD) (a a' : ℕ) (o : Dev nD) : Prop := (∃ h, h < a ∧ o = src true c h) ∨ (∃ h, 1 ≤ h ∧ h ≤ a' ∧ o = src false c h)

/-- The result buffer, right wherever a chunk has been stored. -/
def Out (c : Dev nD) (a a' : ℕ) : sProp 𝕄 :=
  iprop(∃ f : S4096x64.Idx → Elt F .f32, ⌜∀ i, Done c a a' (rowDev (i 0)) → f i = outAt m ρ c i⌝ ∗ (((c : Thread nD τ).loc cc0_stg4_0) ↦{fullShare} f))

/-- After all thirty-two chunks nothing is left. -/
theorem done_all (c o : Dev nD) : Done c 17 15 o := by
  have hc : c.val < 32 := c.isLt
  have ho : o.val < 32 := o.isLt
  by_cases h : (c.val + 32 - o.val) % 32 < 17
  · refine Or.inl ⟨(c.val + 32 - o.val) % 32, h, Fin.ext ?_⟩
    show o.val = (c.val + 31 * ((c.val + 32 - o.val) % 32)) % 32
    omega
  · refine Or.inr ⟨(o.val + 32 - c.val) % 32, by omega, by omega, Fin.ext ?_⟩
    show o.val = (c.val + (o.val + 32 - c.val) % 32) % 32
    omega

/-- Storing the chunk of `o` in its rows makes the rows of `o` right and leaves the others. -/
theorem out_write (c o : Dev nD) (off : Fin 2 → ℕ) (inb : ∀ a, off a + S128x64.size a ≤ S4096x64.size a) (hoff : off = ![128 * o.val, 0])
    (f : S4096x64.Idx → Elt F .f32) (P : Dev nD → Prop) (hf : ∀ i, P (rowDev (i 0)) → f i = outAt m ρ c i) (i : S4096x64.Idx)
    (hi : P (rowDev (i 0)) ∨ rowDev (i 0) = o) :
    ((Memref.whole cc0_stg4_0 : Memref sig .tc .vmem S4096x64 .f32).access (Rect.unit (s := S4096x64) off S128x64.size inb)).write (Elt F) f
      (chunkAt m ρ c o) Finset.univ i = outAt m ρ c i := by
  have hi0 : (i 0).val < 4096 := (i 0).isLt
  have ho : o.val < 32 := o.isLt
  show (View.whole cc0_stg4_0).read (Elt F) ((View.whole cc0_stg4_0).writes (Elt F) f [⟨Rect.unit (s := S4096x64) off S128x64.size inb, chunkAt m ρ c o⟩]) i = _
  by_cases h : rowDev (i 0) = o
  · have hv : (i 0).val / 128 = o.val := congrArg Fin.val h
    rw [View.read_writes_cons_rows_of_mem (View.whole cc0_stg4_0) f inb _ [] i (ValueIdx.ix2 (rowIn (i 0)) (i 1)) hoff
      (by show (i 0).val = 128 * o.val + (i 0).val % 128; omega) rfl]
    unfold outAt; rw [h]
  · have hv : (i 0).val / 128 ≠ o.val := fun h' => h (Fin.ext h')
    rw [View.read_writes_cons_rows_of_not_mem (View.whole cc0_stg4_0) f inb _ [] i hoff (W := 128) rfl (by omega)]
    exact hf i (hi.resolve_right h)

/-! ## The whole state -/

/-- The four inputs in their staging buffers. -/
def Inp (c : Dev nD) : sProp 𝕄 :=
  iprop((((c : Thread nD τ).loc cc0_stg0_0) ↦{fullShare} xb m ρ c) ∗ (((c : Thread nD τ).loc cc0_stg1_0) ↦{fullShare} wb m ρ c)
    ∗ (((c : Thread nD τ).loc cc0_stg2_0) ↦{fullShare} sa m ρ c) ∗ (((c : Thread nD τ).loc cc0_stg3_0) ↦{fullShare} sb m ρ c))

/-- Device `c` in the kernel: what it owes, its two directions, its inputs, its result and its barrier, waited for. -/
def St (c : Dev nD) (i j s i' j' s' a a' : ℕ) : sProp 𝕄 :=
  iprop((records m ρ K ∗ levAts L lv) ∗ (∃ W, owes (c : Thread nD τ) (owed true c i + owed false c i') W)
    ∗ Dir m ρ true c i j s ∗ Dir m ρ false c i' j' s' ∗ (Inp m ρ c ∗ atPos ER (bar c) (0 + 1) ∅ 0) ∗ Out m ρ c a a')

end Cert.KernelIdeal.Gather

end
-- ==== Proof.Ideal.Steps.lean ====
/-
# One operation at a time

For each kind of operation of the kernel — a copy's start, the wait for an arrival, the wait for a send, a load of a
slot, a chunk's store — one lemma that runs it at the head of a program and moves the state (`St`) by one.
-/
module

public import proofs.«01_k».proof.Proof.Ideal.State

@[expose] public section

set_option maxRecDepth 16384

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 63 → ℕ)

abbrev 𝒱₀ : Variants := Variants.none

/-- The weakest precondition of a program of device `c`'s TensorCore. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)}

/-! ## Within one direction -/

section Core

variable {b : Bool} {c : Dev nD} {i j s : ℕ} {M M' : Memref sig .tc .vmem S128x4096 .i8}

/-- Starting hop `i`: the copy goes to the neighbour's slot `i + 1`, half of slot `i` is lent to it. -/
theorem start_core {n : Dev nD} (hn : n = nb b c) (hi : i < hops b) (hij : i ≤ j) (hs : s ≤ i) (hM : IsSlot b i M) (hM' : IsSlot b (i + 1) M')
    {sS sR : SemLoc sig} (hS : sS = .dma (dsem (snd b i))) (hR : sR = .dma (dsem (rcv b i)))
    {hsc : (M' : Memref sig (Dev.tc n : Thread nD τ).2.kind .vmem S128x4096 .i8).view.ref.isScScratch = false}
    {hsrc : M.view.WordExact} {hdst : M'.view.WordExact} {hsem : DmaTarget.Typed .vmem sR (.remote (Dev.tc n : Thread nD τ) M' sS hsc)}
    {k : PUnit → Prog (TpuEff nD τ sig (Elt F) Λ₀ .tc) α} (R : CellTallies nD τ sig Unit) (W : Waits sig Unit) :
    iprop(records m ρ K ∗ owes (c : Thread nD τ) (R + owed b c i) W ∗ Dir m ρ b c i j s)
      ⊢ iprop(((owes (c : Thread nD τ) (R + owed b c (i + 1)) W ∗ Dir m ρ b c (i + 1) j s) -∗ Wp c (k ⟨⟩) Q)
          -∗ Wp c (.op (.enqueueDma M (.remote (Dev.tc n : Thread nD τ) M' sS hsc) sR hsrc hdst hsem) k) Q) := by
  subst hn hS hR
  obtain ⟨fs, hfs⟩ := hM.some_read F c (blkAt m ρ b c i)
  iintro ⟨#Hrec, HO, HD⟩ Hk
  ihave HD := (dir_start m ρ hi hij hs) $$ HD
  unfold todo lent
  icases HD with ⟨⟨HtR, HtS, Hdst⟩, Hsrc, Hback⟩
  ihave Hs1 := (rec_snd m ρ K c hi) $$ Hrec
  icases Hs1 with ⟨#HIs, #HRs⟩
  ihave Hr1 := (rec_rcv m ρ K (nb b c) hi) $$ Hrec
  icases Hr1 with ⟨#HIr, #HRr⟩
  ihave Hd1 := (Entails.of_eq (hM'.any_eq F (nb b c))) $$ Hdst
  icases Hd1 with ⟨%fd, Hdst⟩
  ihave Hsrc := (Entails.of_eq (hM.at_eq F c fullShare.left _ fs hfs)) $$ Hsrc
  iapply (Rounds.wp_send_pointsTo 𝒱₀ ER (Rd m ρ) (c : Thread nD τ) none (c' := (nb b c : Thread nD τ)) (κ₁ := K (c, kq (snd b i))) (κ₂ := K (nb b c, kq (rcv b i)))
    (sS := .dma (dsem (snd b i))) (sem := .dma (dsem (rcv b i))) (src := M) (dst := M')
    (r₁ := 0) (r₂ := 0) (d₁ := false) (d₂ := false) (fs := fs) (fd := fd)
    (by rw [duties_cell m ρ c (snd_ge b i) (snd_lt hi)]; exact Finset.mem_singleton_self _)
    (by rw [duties_cell m ρ (nb b c) (rcv_ge b i) (rcv_lt hi)]; exact Finset.mem_singleton_self _)
    () () N (show M'.view.dmaCredit = N from hM'.credit) (amount_cell m ρ c _ false) (amount_cell m ρ (nb b c) _ false) (O₀ := R + owed b c i) (R + owed b c (i + 1))
    (by rw [owed_step hi, add_assoc]) (W := W)
    (by rw [payload_snd m ρ b c hi]; unfold sndPay; rw [hM.at_eq F c fullShare.left _ fs hfs])
    (by
      rw [payload_rcv m ρ b (nb b c) hi]; unfold rcvPay
      have hr : M'.view.read (Elt F) (M'.view.write (Elt F) fd (M.view.read (Elt F) fs) Finset.univ) = blkAt m ρ b (nb b c) (i + 1) := by
        rw [View.read_write_univ, hfs]; unfold blkAt; rw [src_hop]
      rw [hM'.at_eq F (nb b c) fullShare _ _ hr])) $$ [Hsrc Hdst HO HtS HtR]
  · isplitr; · iexact HIs
    isplitr; · iexact HIr
    isplitl [Hsrc]; · iexact Hsrc
    isplitl [Hdst]; · iexact Hdst
    isplitl [HO]; · iexact HO
    isplitl [HtS]; · iexact HtS
    isplitr; · iexact HRs
    isplitl [HtR]; · iexact HtR
    iexact HRr
  iintro ⟨Hc, HO⟩
  iapply Hk
  isplitl [HO]; · iexact HO
  iapply Hback
  unfold fly
  iexact Hc

/-- Waiting for arrival `j`. -/
theorem recv_core (hj : j < hops b) (hij : i ≤ j + 1) (hM : M.view.dmaCredit = N) {q : DmaSem sig} (hq : q = dsem (rcv b j))
    {M₀ : Memref sig .tc .vmem S128x4096 .i8} {hsrc : M₀.view.WordExact} {hdst : M.view.WordExact}
    {k : PUnit → Prog (TpuEff nD τ sig (Elt F) Λ₀ .tc) α} (O : CellTallies nD τ sig Unit) (W : Waits sig Unit)
    (hO : (levAts L lv : sProp 𝕄) ⊢ MayWait (c : Thread nD τ) (.dma (dsem (rcv b j))) () O) :
    iprop((records m ρ K ∗ levAts L lv) ∗ owes (c : Thread nD τ) O W ∗ Dir m ρ b c i j s)
      ⊢ iprop((((∃ W, owes (c : Thread nD τ) O W) ∗ Dir m ρ b c i (j + 1) s) -∗ Wp c (k ⟨⟩) Q)
          -∗ Wp c (.op (.waitDma2 q M₀ M hsrc hdst) k) Q) := by
  subst hq
  iintro ⟨⟨#Hrec, #Hlev⟩, HO, HD⟩ Hk
  ihave HD := (dir_recv m ρ hj hij) $$ HD
  unfold arr
  icases HD with ⟨⟨Hc, Hat⟩, Hback⟩
  ihave Hr1 := (rec_rcv m ρ K c hj) $$ Hrec
  icases Hr1 with ⟨#HIr, -⟩
  iapply (Rounds.wp_wait_rest_token 𝒱₀ ER (Rd m ρ) (c : Thread nD τ) none (κ := K (c, kq (rcv b j))) (k' := N)
      (fun Kp => (wpE_waitDma2_eq 𝒱₀ (c : Thread nD τ) none Set.univ Kp).trans (by rw [hM])) (Set.mem_univ _) () (O := O) (W := W) (R := 0) (m := 0) (T := ∅)
      (by rw [Nat.zero_add, expect_cell m ρ c (rcv_ge b j) (rcv_lt hj)])) $$ [Hc HO Hat]
  · isplitr; · iexact HIr
    isplitl [Hc]; · iexact Hc
    isplitl [HO]; · iexact HO
    isplitr; · iapply hO; iexact Hlev
    iexact Hat
  iintro ⟨HO, Hat, -, Hpay⟩
  ihave Hp := (Entails.of_eq (rest_rcv m ρ b c hj)) $$ Hpay
  iapply Hk
  isplitl [HO]; · iexists _; iexact HO
  iapply Hback
  unfold rdone
  isplitl [Hat] <;> iassumption

/-- Waiting for send `s`, with nothing owed. -/
theorem sent_core (hs : s < i) (hi : i ≤ hops b) (hM : M.view.dmaCredit = N) {q : DmaSem sig} (hq : q = dsem (snd b s))
    {M₀ : Memref sig .tc .vmem S128x4096 .i8} {hsrc : M₀.view.WordExact} {hdst : M.view.WordExact}
    {k : PUnit → Prog (TpuEff nD τ sig (Elt F) Λ₀ .tc) α} (O : CellTallies nD τ sig Unit) (hO : O = 0) (W : Waits sig Unit) :
    iprop(records m ρ K ∗ owes (c : Thread nD τ) O W ∗ Dir m ρ b c i j s)
      ⊢ iprop((((∃ W, owes (c : Thread nD τ) O W) ∗ Dir m ρ b c i j (s + 1)) -∗ Wp c (k ⟨⟩) Q)
          -∗ Wp c (.op (.waitDma2 q M₀ M hsrc hdst) k) Q) := by
  subst hq hO
  have hh : s < hops b := lt_of_lt_of_le hs hi
  iintro ⟨#Hrec, HO, HD⟩ Hk
  ihave HD := (dir_sent m ρ hs hi) $$ HD
  unfold fly spos
  icases HD with ⟨⟨Hc, Hat⟩, Hback⟩
  ihave Hr1 := (rec_snd m ρ K c hh) $$ Hrec
  icases Hr1 with ⟨#HIr, -⟩
  iapply (Rounds.wp_wait_rest_token 𝒱₀ ER (Rd m ρ) (c : Thread nD τ) none (κ := K (c, kq (snd b s))) (k' := N)
      (fun Kp => (wpE_waitDma2_eq 𝒱₀ (c : Thread nD τ) none Set.univ Kp).trans (by rw [hM])) (Set.mem_univ _) () (O := 0) (W := W) (R := 0) (m := 0) (T := ∅)
      (by rw [Nat.zero_add, expect_cell m ρ c (snd_ge b s) (snd_lt hh)])) $$ [Hc HO Hat]
  · isplitr; · iexact HIr
    isplitl [Hc]; · iexact Hc
    isplitl [HO]; · iexact HO
    isplitr; · rw [MayWait_zero]; iempintro
    iexact Hat
  iintro ⟨HO, Hat, -, Hpay⟩
  ihave Hp := (Entails.of_eq (rest_snd m ρ b c hh)) $$ Hpay
  iapply Hk
  isplitl [HO]; · iexists _; iexact HO
  iapply Hback
  unfold sdone
  isplitl [Hat] <;> iassumption

end Core

/-! ## On the whole state -/

section Whole

variable {c : Dev nD} {i j s i' j' s' a a' : ℕ} {M M' : Memref sig .tc .vmem S128x4096 .i8}

/-- The clockwise half of the state, taken out to be put back further on; -/
theorem st_T : St m ρ K c i j s i' j' s' a a' ⊢ iprop(∃ W, (records m ρ K ∗ levAts L lv) ∗ owes (c : Thread nD τ) (owed false c i' + owed true c i) W
    ∗ Dir m ρ true c i j s
    ∗ ∀ i j s, ((∃ W, owes (c : Thread nD τ) (owed false c i' + owed true c i) W) ∗ Dir m ρ true c i j s) -∗ St m ρ K c i j s i' j' s' a a') := by
  unfold St
  iintro ⟨⟨#Hrec, #Hlev⟩, ⟨%W, HO⟩, HT, HF, HI, Hout⟩
  iexists W
  isplitr
  · isplitr; · iexact Hrec
    iexact Hlev
  isplitl [HO]; · rw [add_comm]; iexact HO
  isplitl [HT]; · iexact HT
  iintro %i2 %j2 %s2 ⟨⟨%W2, HO⟩, HT⟩
  isplitr
  · isplitr; · iexact Hrec
    iexact Hlev
  isplitl [HO]; · iexists W2; rw [add_comm]; iexact HO
  isplitl [HT]; · iexact HT
  isplitl [HF]; · iexact HF
  isplitl [HI] <;> iassumption

/-- the counter-clockwise half; -/
theorem st_F : St m ρ K c i j s i' j' s' a a' ⊢ iprop(∃ W, (records m ρ K ∗ levAts L lv) ∗ owes (c : Thread nD τ) (owed true c i + owed false c i') W
    ∗ Dir m ρ false c i' j' s'
    ∗ ∀ i' j' s', ((∃ W, owes (c : Thread nD τ) (owed true c i + owed false c i') W) ∗ Dir m ρ false c i' j' s') -∗ St m ρ K c i j s i' j' s' a a') := by
  unfold St
  iintro ⟨⟨#Hrec, #Hlev⟩, ⟨%W, HO⟩, HT, HF, HI, Hout⟩
  iexists W
  isplitr
  · isplitr; · iexact Hrec
    iexact Hlev
  isplitl [HO]; · iexact HO
  isplitl [HF]; · iexact HF
  iintro %i2 %j2 %s2 ⟨⟨%W2, HO⟩, HF⟩
  isplitr
  · isplitr; · iexact Hrec
    iexact Hlev
  isplitl [HO]; · iexists W2; iexact HO
  isplitl [HT]; · iexact HT
  isplitl [HF]; · iexact HF
  isplitl [HI] <;> iassumption

/-- the result buffer; -/
theorem st_out : St m ρ K c i j s i' j' s' a a' ⊢ iprop(Out m ρ c a a' ∗ ∀ a a', Out m ρ c a a' -∗ St m ρ K c i j s i' j' s' a a') := by
  unfold St
  iintro ⟨Hc, HO, HT, HF, HI, Hout⟩
  isplitl [Hout]; · iexact Hout
  iintro %a2 %a2' Hout
  isplitl [Hc]; · iexact Hc
  isplitl [HO]; · iexact HO
  isplitl [HT]; · iexact HT
  isplitl [HF]; · iexact HF
  isplitl [HI] <;> iassumption

/-- the device's own block of `x`. -/
theorem st_x : St m ρ K c i j s i' j' s' a a' ⊢ iprop((((c : Thread nD τ).loc cc0_stg0_0) ↦{fullShare} xb m ρ c)
    ∗ ((((c : Thread nD τ).loc cc0_stg0_0) ↦{fullShare} xb m ρ c) -∗ St m ρ K c i j s i' j' s' a a')) := by
  unfold St Inp
  iintro ⟨Hc, HO, HT, HF, ⟨⟨Hx, HI⟩, Hb⟩, Hout⟩
  isplitl [Hx]; · iexact Hx
  iintro Hx
  isplitl [Hc]; · iexact Hc
  isplitl [HO]; · iexact HO
  isplitl [HT]; · iexact HT
  isplitl [HF]; · iexact HF
  isplitl [Hx HI Hb]
  · isplitl [Hx HI]
    · isplitl [Hx] <;> iassumption
    iexact Hb
  iexact Hout

theorem startT {n : Dev nD} (hn : n = nb true c)
    {sS sR : SemLoc sig}
    {hsc : (M' : Memref sig (Dev.tc n : Thread nD τ).2.kind .vmem S128x4096 .i8).view.ref.isScScratch = false}
    {hsrc : M.view.WordExact} {hdst : M'.view.WordExact} {hsem : DmaTarget.Typed .vmem sR (.remote (Dev.tc n : Thread nD τ) M' sS hsc)}
    {k : PUnit → Prog (TpuEff nD τ sig (Elt F) Λ₀ .tc) α} (hk : St m ρ K c (i + 1) j s i' j' s' a a' ⊢ Wp c (k ⟨⟩) Q)
    (hi : i < 16 := by omega) (hij : i ≤ j := by omega) (hs : s ≤ i := by omega) (hM : IsSlot true i M := by exact isSlotT _)
    (hM' : IsSlot true (i + 1) M' := by exact isSlotT _) (hS : sS = .dma (dsem (snd true i)) := by rfl) (hR : sR = .dma (dsem (rcv true i)) := by rfl) :
    St m ρ K c i j s i' j' s' a a'
      ⊢ Wp c (.op (.enqueueDma M (.remote (Dev.tc n : Thread nD τ) M' sS hsc) sR hsrc hdst hsem) k) Q := by
  iintro H
  ihave H := (st_T m ρ K) $$ H
  icases H with ⟨%W, ⟨#Hrec, -⟩, HO, HD, Hb⟩
  iapply (start_core m ρ K hn (show i < hops true from hi) hij hs hM hM' hS hR (owed false c i') W) $$ [HO HD]
  · isplitr; · iexact Hrec
    isplitl [HO] <;> iassumption
  iintro ⟨HO, HD⟩
  iapply hk
  iapply Hb
  isplitl [HO]; · iexists W; iexact HO
  iexact HD

theorem startF {n : Dev nD} (hn : n = nb false c)
    {sS sR : SemLoc sig}
    {hsc : (M' : Memref sig (Dev.tc n : Thread nD τ).2.kind .vmem S128x4096 .i8).view.ref.isScScratch = false}
    {hsrc : M.view.WordExact} {hdst : M'.view.WordExact} {hsem : DmaTarget.Typed .vmem sR (.remote (Dev.tc n : Thread nD τ) M' sS hsc)}
    {k : PUnit → Prog (TpuEff nD τ sig (Elt F) Λ₀ .tc) α} (hk : St m ρ K c i j s (i' + 1) j' s' a a' ⊢ Wp c (k ⟨⟩) Q)
    (hi : i' < 15 := by omega) (hij : i' ≤ j' := by omega) (hs : s' ≤ i' := by omega) (hM : IsSlot false i' M := by exact isSlotF _)
    (hM' : IsSlot false (i' + 1) M' := by exact isSlotF _) (hS : sS = .dma (dsem (snd false i')) := by rfl) (hR : sR = .dma (dsem (rcv false i')) := by rfl) :
    St m ρ K c i j s i' j' s' a a'
      ⊢ Wp c (.op (.enqueueDma M (.remote (Dev.tc n : Thread nD τ) M' sS hsc) sR hsrc hdst hsem) k) Q := by
  iintro H
  ihave H := (st_F m ρ K) $$ H
  icases H with ⟨%W, ⟨#Hrec, -⟩, HO, HD, Hb⟩
  iapply (start_core m ρ K hn (show i' < hops false from hi) hij hs hM hM' hS hR (owed true c i) W) $$ [HO HD]
  · isplitr; · iexact Hrec
    isplitl [HO] <;> iassumption
  iintro ⟨HO, HD⟩
  iapply hk
  iapply Hb
  isplitl [HO]; · iexists W; iexact HO
  iexact HD

/-- An arrival may be waited for once its own hop, and the other direction's hop before it, have been started. -/
theorem recvT {q : DmaSem sig} {M₀ : Memref sig .tc .vmem S128x4096 .i8} {hsrc : M₀.view.WordExact} {hdst : M.view.WordExact}
    {k : PUnit → Prog (TpuEff nD τ sig (Elt F) Λ₀ .tc) α} (hk : St m ρ K c i (j + 1) s i' j' s' a a' ⊢ Wp c (k ⟨⟩) Q)
    (hj : j < 16 := by omega) (hij : i ≤ j + 1 := by omega) (h1 : j < i := by omega) (h2 : j ≤ i' ∨ 15 ≤ i' := by omega)
    (hM : IsSlot true (j + 1) M := by exact isSlotT _) (hq : q = dsem (rcv true j) := by rfl) :
    St m ρ K c i j s i' j' s' a a' ⊢ Wp c (.op (.waitDma2 q M₀ M hsrc hdst) k) Q := by
  iintro H
  ihave H := (st_T m ρ K) $$ H
  icases H with ⟨%W, #Hctx, HO, HD, Hb⟩
  iapply (recv_core m ρ K (show j < hops true from hj) hij hM.credit hq (owed false c i' + owed true c i) W (by
      rw [add_comm]
      exact mayWait_owed c _ (rlev true j) i i' (by rw [lv_rcv c (show j < hops true from hj)])
        (fun p hp hp' => by show 2 + 2 * j < 2 + 2 * p; omega) (fun p hp hp' => by show 2 + 2 * j < 3 + 2 * p; omega))) $$ [HO HD]
  · isplitr; · iexact Hctx
    isplitl [HO] <;> iassumption
  iintro H
  iapply hk
  iapply Hb
  iexact H

theorem recvF {q : DmaSem sig} {M₀ : Memref sig .tc .vmem S128x4096 .i8} {hsrc : M₀.view.WordExact} {hdst : M.view.WordExact}
    {k : PUnit → Prog (TpuEff nD τ sig (Elt F) Λ₀ .tc) α} (hk : St m ρ K c i j s i' (j' + 1) s' a a' ⊢ Wp c (k ⟨⟩) Q)
    (hj : j' < 15 := by omega) (hij : i' ≤ j' + 1 := by omega) (h1 : j' < i' := by omega) (h2 : j' + 1 < i ∨ 16 ≤ i := by omega)
    (hM : IsSlot false (j' + 1) M := by exact isSlotF _) (hq : q = dsem (rcv false j') := by rfl) :
    St m ρ K c i j s i' j' s' a a' ⊢ Wp c (.op (.waitDma2 q M₀ M hsrc hdst) k) Q := by
  iintro H
  ihave H := (st_F m ρ K) $$ H
  icases H with ⟨%W, #Hctx, HO, HD, Hb⟩
  iapply (recv_core m ρ K (show j' < hops false from hj) hij hM.credit hq (owed true c i + owed false c i') W
      (mayWait_owed c _ (rlev false j') i i' (by rw [lv_rcv c (show j' < hops false from hj)])
        (fun p hp hp' => by show 3 + 2 * j' < 2 + 2 * p; omega) (fun p hp hp' => by show 3 + 2 * j' < 3 + 2 * p; omega))) $$ [HO HD]
  · isplitr; · iexact Hctx
    isplitl [HO] <;> iassumption
  iintro H
  iapply hk
  iapply Hb
  iexact H

/-- A send may be waited for once every hop has been started. -/
theorem sentT {q : DmaSem sig} {M₀ : Memref sig .tc .vmem S128x4096 .i8} {hsrc : M₀.view.WordExact} {hdst : M.view.WordExact}
    {k : PUnit → Prog (TpuEff nD τ sig (Elt F) Λ₀ .tc) α} (hk : St m ρ K c 16 j (s + 1) 15 j' s' a a' ⊢ Wp c (k ⟨⟩) Q)
    (hs : s < 16 := by omega) (hM : IsSlot true s M := by exact isSlotT _) (hq : q = dsem (snd true s) := by rfl) :
    St m ρ K c 16 j s 15 j' s' a a' ⊢ Wp c (.op (.waitDma2 q M₀ M hsrc hdst) k) Q := by
  iintro H
  ihave H := (st_T m ρ K) $$ H
  icases H with ⟨%W, ⟨#Hrec, -⟩, HO, HD, Hb⟩
  iapply (sent_core m ρ K hs le_rfl hM.credit hq (owed false c 15 + owed true c 16)
    (by rw [owed_end (b := false) (show hops false ≤ 15 from le_rfl), owed_end (b := true) (show hops true ≤ 16 from le_rfl), add_zero]) W) $$ [HO HD]
  · isplitr; · iexact Hrec
    isplitl [HO] <;> iassumption
  iintro H
  iapply hk
  iapply Hb
  iexact H

theorem sentF {q : DmaSem sig} {M₀ : Memref sig .tc .vmem S128x4096 .i8} {hsrc : M₀.view.WordExact} {hdst : M.view.WordExact}
    {k : PUnit → Prog (TpuEff nD τ sig (Elt F) Λ₀ .tc) α} (hk : St m ρ K c 16 j s 15 j' (s' + 1) a a' ⊢ Wp c (k ⟨⟩) Q)
    (hs : s' < 15 := by omega) (hM : IsSlot false s' M := by exact isSlotF _) (hq : q = dsem (snd false s') := by rfl) :
    St m ρ K c 16 j s 15 j' s' a a' ⊢ Wp c (.op (.waitDma2 q M₀ M hsrc hdst) k) Q := by
  iintro H
  ihave H := (st_F m ρ K) $$ H
  icases H with ⟨%W, ⟨#Hrec, -⟩, HO, HD, Hb⟩
  iapply (sent_core m ρ K hs le_rfl hM.credit hq (owed true c 16 + owed false c 15)
    (by rw [owed_end (b := false) (show hops false ≤ 15 from le_rfl), owed_end (b := true) (show hops true ≤ 16 from le_rfl), add_zero]) W) $$ [HO HD]
  · isplitr; · iexact Hrec
    isplitl [HO] <;> iassumption
  iintro H
  iapply hk
  iapply Hb
  iexact H

/-- A load of clockwise slot `h` gives a vector that, its unit axis dropped, is the slot's block. -/
theorem loadT {h : ℕ} {inb : ∀ a, (![h, 0, 0] : Fin 3 → Nat) a + S1x128x4096.size a ≤ S17x128x4096.size a}
    {hl : (Memref.whole cc0_scratch0 : Memref sig .tc .vmem S17x128x4096 .i8).view.LoadsAt (rectT inb).toLoadRect}
    {k : (S1x128x4096.Idx → Elt F .i8) → Prog (TpuEff nD τ sig (Elt F) Λ₀ .tc) α}
    (hk : ∀ v : S1x128x4096.Idx → Elt F .i8, shapeCast S128x4096 v shapeCasts_S1x128x4096_S128x4096 = blkAt m ρ true c h →
      St m ρ K c i j s i' j' s' a a' ⊢ Wp c (k v) Q)
    (hh : h ≤ j := by omega) :
    St m ρ K c i j s i' j' s' a a'
      ⊢ Wp c (.op (.load (Memref.whole cc0_scratch0 : Memref sig .tc .vmem S17x128x4096 .i8) (rectT inb).toLoadRect hl) k) Q := by
  have hv : (Memref.whole cc0_scratch0 : Memref sig .tc .vmem S17x128x4096 .i8).view.setOn (rectT inb).toLoadRect.set = setT h :=
    ((View.set_slice (View.whole cc0_scratch0) (rectT inb)).symm.trans (View.set_slice_whole cc0_scratch0 (rectT inb))).trans (rectT_set inb)
  have he : kept m ρ true c h = (((c : Thread nD τ).loc cc0_scratch0) ↦[setT h]{fullShare.right} repT (blkAt m ρ true c h)) := rfl
  iintro H
  ihave H := (st_T m ρ K) $$ H
  icases H with ⟨%W, #Hctx, HO, HD, Hb⟩
  ihave HD := (dir_read m ρ hh) $$ HD
  icases HD with ⟨Hs, HD⟩
  ihave Hs := (Entails.of_eq he) $$ Hs
  iapply (wp_load 𝒱₀ (c : Thread nD τ) none Set.univ (m := (Memref.whole cc0_scratch0 : Memref sig .tc .vmem S17x128x4096 .i8)) hv.subset) $$ Hs
  iintro Hs
  iapply (hk ((Memref.whole cc0_scratch0 : Memref sig .tc .vmem S17x128x4096 .i8).view.readAt (Elt F) (rectT inb).toLoadRect (repT (blkAt m ρ true c h))) (memT_read_rep inb (blkAt m ρ true c h)))
  iapply Hb
  isplitl [HO]; · iexists W; iexact HO
  iapply HD
  iapply (Entails.of_eq he.symm)
  iexact Hs

theorem loadF {h : ℕ} {inb : ∀ a, (![h, 0, 0] : Fin 3 → Nat) a + S1x128x4096.size a ≤ S16x128x4096.size a}
    {hl : (Memref.whole cc0_scratch1 : Memref sig .tc .vmem S16x128x4096 .i8).view.LoadsAt (rectF inb).toLoadRect}
    {k : (S1x128x4096.Idx → Elt F .i8) → Prog (TpuEff nD τ sig (Elt F) Λ₀ .tc) α}
    (hk : ∀ v : S1x128x4096.Idx → Elt F .i8, shapeCast S128x4096 v shapeCasts_S1x128x4096_S128x4096 = blkAt m ρ false c h →
      St m ρ K c i j s i' j' s' a a' ⊢ Wp c (k v) Q)
    (hh : h ≤ j' := by omega) :
    St m ρ K c i j s i' j' s' a a'
      ⊢ Wp c (.op (.load (Memref.whole cc0_scratch1 : Memref sig .tc .vmem S16x128x4096 .i8) (rectF inb).toLoadRect hl) k) Q := by
  have hv : (Memref.whole cc0_scratch1 : Memref sig .tc .vmem S16x128x4096 .i8).view.setOn (rectF inb).toLoadRect.set = setF h :=
    ((View.set_slice (View.whole cc0_scratch1) (rectF inb)).symm.trans (View.set_slice_whole cc0_scratch1 (rectF inb))).trans (rectF_set inb)
  have he : kept m ρ false c h = (((c : Thread nD τ).loc cc0_scratch1) ↦[setF h]{fullShare.right} repF (blkAt m ρ false c h)) := rfl
  iintro H
  ihave H := (st_F m ρ K) $$ H
  icases H with ⟨%W, #Hctx, HO, HD, Hb⟩
  ihave HD := (dir_read m ρ hh) $$ HD
  icases HD with ⟨Hs, HD⟩
  ihave Hs := (Entails.of_eq he) $$ Hs
  iapply (wp_load 𝒱₀ (c : Thread nD τ) none Set.univ (m := (Memref.whole cc0_scratch1 : Memref sig .tc .vmem S16x128x4096 .i8)) hv.subset) $$ Hs
  iintro Hs
  iapply (hk ((Memref.whole cc0_scratch1 : Memref sig .tc .vmem S16x128x4096 .i8).view.readAt (Elt F) (rectF inb).toLoadRect (repF (blkAt m ρ false c h))) (memF_read_rep inb (blkAt m ρ false c h)))
  iapply Hb
  isplitl [HO]; · iexists W; iexact HO
  iapply HD
  iapply (Entails.of_eq he.symm)
  iexact Hs

/-- A load of the device's own block. -/
theorem loadX {inb : ∀ a, (![0, 0] : Fin 2 → Nat) a + S128x4096.size a ≤ S128x4096.size a}
    {hl : (Memref.whole cc0_stg0_0 : Memref sig .tc .vmem S128x4096 .i8).view.LoadsAt (Rect.unit (s := S128x4096) ![0, 0] S128x4096.size inb).toLoadRect}
    {k : (S128x4096.Idx → Elt F .i8) → Prog (TpuEff nD τ sig (Elt F) Λ₀ .tc) α}
    (hk : St m ρ K c i j s i' j' s' a a' ⊢ Wp c (k (xb m ρ c)) Q) :
    St m ρ K c i j s i' j' s' a a'
      ⊢ Wp c (.op (.load (Memref.whole cc0_stg0_0 : Memref sig .tc .vmem S128x4096 .i8) (Rect.unit (s := S128x4096) ![0, 0] S128x4096.size inb).toLoadRect hl) k) Q := by
  have hz : (![0, 0] : Fin 2 → Nat) = fun _ => 0 := funext fun a => by fin_cases a <;> rfl
  iintro H
  ihave H := (st_x m ρ K) $$ H
  icases H with ⟨Hx, Hb⟩
  iapply (wp_load 𝒱₀ (c : Thread nD τ) none Set.univ (m := (Memref.whole cc0_stg0_0 : Memref sig .tc .vmem S128x4096 .i8)) (Finset.subset_univ _)) $$ Hx
  iintro Hx
  rw [show (Memref.whole cc0_stg0_0 : Memref sig .tc .vmem S128x4096 .i8).view.readAt (Elt F) (Rect.unit (s := S128x4096) ![0, 0] S128x4096.size inb).toLoadRect (xb m ρ c)
    = xb m ρ c from Memref.readAt_unit_zero (Elt F) cc0_stg0_0 hz _ _]
  iapply hk
  iapply Hb
  iexact Hx

/-- Storing the chunk of device `o`, the load in front of the store being of no use to anyone. -/
theorem put_core {b b' : ℕ} (o : Dev nD) (hd : ∀ d, Done c b b' d → Done c a a' d ∨ d = o) {off : Fin 2 → ℕ} {inb : ∀ x, off x + S128x64.size x ≤ S4096x64.size x}
    (hoff : off = ![128 * o.val, 0]) {v : FVec F S128x64 .f32} (hv : v = chunkAt m ρ c o)
    {hl : (Memref.whole cc0_stg4_0 : Memref sig .tc .vmem S4096x64 .f32).view.LoadsAt (Rect.unit (s := S4096x64) off S128x64.size inb).toLoadRect}
    {hx : ((Memref.whole cc0_stg4_0 : Memref sig .tc .vmem S4096x64 .f32).access (Rect.unit (s := S4096x64) off S128x64.size inb)).Stores Finset.univ}
    {hm : (Finset.univ : Finset (Rect.unit (s := S4096x64) off S128x64.size inb).shape.Idx) = Finset.univ ∨ ∀ a, (Rect.unit (s := S4096x64) off S128x64.size inb).stride a = 1}
    {k : PUnit → Prog (TpuEff nD τ sig (Elt F) Λ₀ .tc) α}
    (hk : St m ρ K c i j s i' j' s' b b' ⊢ Wp c (k ⟨⟩) Q) :
    St m ρ K c i j s i' j' s' a a'
      ⊢ Wp c (.op (.load (Memref.whole cc0_stg4_0 : Memref sig .tc .vmem S4096x64 .f32) (Rect.unit (s := S4096x64) off S128x64.size inb).toLoadRect hl) fun _ =>
          .op (.store (Memref.whole cc0_stg4_0 : Memref sig .tc .vmem S4096x64 .f32) (Rect.unit (s := S4096x64) off S128x64.size inb) v Finset.univ hx hm) k) Q := by
  subst hv
  iintro H
  ihave H := (st_out m ρ K) $$ H
  unfold Out
  icases H with ⟨⟨%f, %hf, Hf⟩, Hb⟩
  iapply (wp_load 𝒱₀ (c : Thread nD τ) none Set.univ (m := (Memref.whole cc0_stg4_0 : Memref sig .tc .vmem S4096x64 .f32)) (Finset.subset_univ _)) $$ Hf
  iintro Hf
  iapply (wp_store 𝒱₀ (c : Thread nD τ) none Set.univ (m := (Memref.whole cc0_stg4_0 : Memref sig .tc .vmem S4096x64 .f32))
    (r := Rect.unit (s := S4096x64) off S128x64.size inb) (Mk := Finset.univ) (Finset.subset_univ _)) $$ Hf
  iintro Hf
  iapply hk
  iapply Hb
  iexists _
  isplitr
  · ipureintro
    intro i hi
    exact out_write m ρ c o off inb hoff f (Done c a a') hf i (hd _ hi)
  iexact Hf

/-- The chunk of clockwise slot `h`. -/
theorem putT {off : Fin 2 → ℕ} {inb : ∀ x, off x + S128x64.size x ≤ S4096x64.size x}
    (hoff : off = ![128 * (src true c a).val, 0]) {v : FVec F S128x64 .f32} (hv : v = chunkAt m ρ c (src true c a))
    {hl : (Memref.whole cc0_stg4_0 : Memref sig .tc .vmem S4096x64 .f32).view.LoadsAt (Rect.unit (s := S4096x64) off S128x64.size inb).toLoadRect}
    {hx : ((Memref.whole cc0_stg4_0 : Memref sig .tc .vmem S4096x64 .f32).access (Rect.unit (s := S4096x64) off S128x64.size inb)).Stores Finset.univ}
    {hm : (Finset.univ : Finset (Rect.unit (s := S4096x64) off S128x64.size inb).shape.Idx) = Finset.univ ∨ ∀ a, (Rect.unit (s := S4096x64) off S128x64.size inb).stride a = 1}
    {k : PUnit → Prog (TpuEff nD τ sig (Elt F) Λ₀ .tc) α}
    (hk : St m ρ K c i j s i' j' s' (a + 1) a' ⊢ Wp c (k ⟨⟩) Q) :
    St m ρ K c i j s i' j' s' a a'
      ⊢ Wp c (.op (.load (Memref.whole cc0_stg4_0 : Memref sig .tc .vmem S4096x64 .f32) (Rect.unit (s := S4096x64) off S128x64.size inb).toLoadRect hl) fun _ =>
          .op (.store (Memref.whole cc0_stg4_0 : Memref sig .tc .vmem S4096x64 .f32) (Rect.unit (s := S4096x64) off S128x64.size inb) v Finset.univ hx hm) k) Q := by
  refine put_core m ρ K (src true c a) (fun d hd => ?_) hoff hv hk
  rcases hd with ⟨h, h1, rfl⟩ | ⟨h, h1, h2, rfl⟩
  · rcases Nat.lt_succ_iff_lt_or_eq.mp h1 with h1 | rfl
    · exact Or.inl (Or.inl ⟨h, h1, rfl⟩)
    · exact Or.inr rfl
  · exact Or.inl (Or.inr ⟨h, h1, h2, rfl⟩)

/-- The chunk of counter-clockwise slot `a' + 1`. -/
theorem putF {off : Fin 2 → ℕ} {inb : ∀ x, off x + S128x64.size x ≤ S4096x64.size x}
    (hoff : off = ![128 * (src false c (a' + 1)).val, 0]) {v : FVec F S128x64 .f32} (hv : v = chunkAt m ρ c (src false c (a' + 1)))
    {hl : (Memref.whole cc0_stg4_0 : Memref sig .tc .vmem S4096x64 .f32).view.LoadsAt (Rect.unit (s := S4096x64) off S128x64.size inb).toLoadRect}
    {hx : ((Memref.whole cc0_stg4_0 : Memref sig .tc .vmem S4096x64 .f32).access (Rect.unit (s := S4096x64) off S128x64.size inb)).Stores Finset.univ}
    {hm : (Finset.univ : Finset (Rect.unit (s := S4096x64) off S128x64.size inb).shape.Idx) = Finset.univ ∨ ∀ a, (Rect.unit (s := S4096x64) off S128x64.size inb).stride a = 1}
    {k : PUnit → Prog (TpuEff nD τ sig (Elt F) Λ₀ .tc) α}
    (hk : St m ρ K c i j s i' j' s' a (a' + 1) ⊢ Wp c (k ⟨⟩) Q) :
    St m ρ K c i j s i' j' s' a a'
      ⊢ Wp c (.op (.load (Memref.whole cc0_stg4_0 : Memref sig .tc .vmem S4096x64 .f32) (Rect.unit (s := S4096x64) off S128x64.size inb).toLoadRect hl) fun _ =>
          .op (.store (Memref.whole cc0_stg4_0 : Memref sig .tc .vmem S4096x64 .f32) (Rect.unit (s := S4096x64) off S128x64.size inb) v Finset.univ hx hm) k) Q := by
  refine put_core m ρ K (src false c (a' + 1)) (fun d hd => ?_) hoff hv hk
  rcases hd with ⟨h, h1, rfl⟩ | ⟨h, h1, h2, rfl⟩
  · exact Or.inl (Or.inl ⟨h, h1, rfl⟩)
  · rcases Nat.le_succ_iff.mp h2 with h2 | rfl
    · exact Or.inl (Or.inr ⟨h, h1, h2, rfl⟩)
    · exact Or.inr rfl

/-- The end of a part. -/
theorem done_ret {β : Type} {P : sProp 𝕄} {x : β} {Q : β → sProp 𝕄} (h : P ⊢ Q x) : P ⊢ Wp c (.ret x) Q := by
  refine h.trans ?_
  show Q x ⊢ wp frame (wpE (defs₀ (F := F)) 𝒱₀ (c : Thread nD τ) none) Set.univ (.ret x) Q
  rw [wp_ret]
  iintro H
  imodintro
  iexact H

end Whole

end Cert.KernelIdeal.Gather

end
-- ==== Proof.Ideal.Parts.lean ====
/-
# The kernel's parts

What each part of the kernel's body does to the state: the hops it starts, the arrivals and sends it waits for, and the
chunks it stores.
-/
module

public import proofs.«01_k».proof.Proof.Ideal.Steps

@[expose] public section

set_option maxRecDepth 16384

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 63 → ℕ)

/-- A part of the body at the buffers and semaphore arrays it is called with. -/
abbrev on {β : Type 1} (f : (arg0 : Memref sig .tc .vmem S128x4096 .i8) → arg0.IsWhole → (arg1 : Memref sig .tc .vmem S4096x64 .i8) → arg1.IsWhole
    → (arg2 : Memref sig .tc .smem S1 .f32) → arg2.IsWhole → (arg3 : Memref sig .tc .smem S1 .f32) → arg3.IsWhole
    → (arg4 : Memref sig .tc .vmem S4096x64 .f32) → arg4.IsWhole → (arg5 : Memref sig .tc .vmem S17x128x4096 .i8) → arg5.IsWhole
    → (arg6 : Memref sig .tc .vmem S16x128x4096 .i8) → arg6.IsWhole → DmaSems sig S16x1 → DmaSems sig S16x1 → DmaSems sig S15x1 → DmaSems sig S15x1 → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 cc0_scratch4 cc0_scratch5

/-- The devices the hops go to. -/
theorem dev_T {c : Dev nD} {x : ℕ} {h : x < nD} (e : x = (c.val + 1) % 32) : (⟨x, h⟩ : Dev nD) = nb true c := Fin.ext e
theorem dev_F {c : Dev nD} {x : ℕ} {h : x < nD} (e : x = (c.val + 31) % 32) : (⟨x, h⟩ : Dev nD) = nb false c := Fin.ext e

/-- The rows the chunks go to. -/
theorem off_own (c : Dev nD) : k0_off1 c = ![128 * (src true c 0).val, 0] := by
  rw [k0_off1_eq]
  have : (src true c 0).val = c.val := by have := c.isLt; show (c.val + 31 * 0) % 32 = c.val; change c.val < 32 at this; omega
  rw [this]
theorem off_T (c : Dev nD) {w : BitVec 32} (r : Fin 16) (hw : w = BitVec.ofNat 32 (48 + r.val)) {h : ℕ} (hh : h + r.val = 16) :
    k0_off2 c w = ![128 * (src true c h).val, 0] := by
  rw [hw, k0_off2_eq]
  have : (src true c h).val = (c.val + r.val + 48) % 32 := by show (c.val + 31 * h) % 32 = _; omega
  rw [this]
theorem off_F (c : Dev nD) {w : BitVec 32} (r : Fin 15) (hw : w = BitVec.ofNat 32 r.val) {h : ℕ} (hh : h = r.val) :
    k0_off3 c w = ![128 * (src false c (h + 1)).val, 0] := by
  rw [hw, k0_off3_eq]
  have : (src false c (h + 1)).val = (c.val + r.val + 1) % 32 := by show (c.val + (h + 1)) % 32 = _; omega
  rw [this]

/-- The chunk computed from a loaded slot. -/
theorem chunk_of {c : Dev nD} {b : Bool} {h : ℕ} {X : Blk F} (e : X = blkAt m ρ b c h) : chunk (gs m ρ c) (wb m ρ c) X = chunkAt m ρ c (src b c h) := by
  rw [e]; rfl

variable {c : Dev nD} (v2 v4 v6 w w' : BitVec 32)

theorem part3 {v} (hv : v = chunkAt m ρ c (src true c 0)) {Q} (hk : St m ρ K c 2 1 0 1 0 0 1 0 ⊢ Q ⟨⟩) :
    St m ρ K c 1 0 0 1 0 0 0 0 ⊢ Wp c (on (k0_part3 (F := F)) c v4 v6 v w) Q := by
  rw [k0_part3_eq_skeleton]; unfold on k0_part3_skel
  simp only [Prog.lift, Prog.bind_op, Prog.bind_ret, Prog.pure_eq_ret]
  refine putT m ρ K (off_own c) hv ?_
  refine recvT m ρ K ?_
  refine startT m ρ K (dev_T (k0_dev5_eq c)) ?_
  exact done_ret hk

theorem part4 {Q : (Σ' (_ : IVec S128x4096 8), BitVec 32) → sProp 𝕄} (hk : ∀ X w, X = blkAt m ρ false c 1 → St m ρ K c 2 1 0 2 1 0 2 0 ⊢ Q ⟨X, w⟩) :
    St m ρ K c 2 1 0 1 0 0 1 0 ⊢ Wp c (on (k0_part4 (F := F)) c v2 v4 (gs m ρ c) (wb m ρ c)) Q := by
  rw [k0_part4_eq_skeleton]; unfold on k0_part4_skel
  simp only [Prog.lift, Prog.bind_op, Prog.bind_ret, Prog.pure_eq_ret]
  refine recvF m ρ K ?_
  refine startF m ρ K (dev_F (k0_dev6_eq c)) ?_
  refine loadT m ρ K fun v hv => ?_
  refine putT m ρ K (off_T c 15 rfl rfl) (chunk_of m ρ hv) ?_
  refine loadF m ρ K fun v hv => ?_
  exact done_ret (hk _ _ hv)

theorem part5 {v} (hv : v = blkAt m ρ false c 1) {Q} (hk : St m ρ K c 2 2 0 2 1 0 2 1 ⊢ Q ⟨⟩) :
    St m ρ K c 2 1 0 2 1 0 2 0 ⊢ Wp c (on (k0_part5 (F := F)) c v2 v6 (gs m ρ c) (wb m ρ c) v w) Q := by
  rw [k0_part5_eq_skeleton]; unfold on k0_part5_skel
  simp only [Prog.lift, Prog.bind_op, Prog.bind_ret, Prog.pure_eq_ret]
  refine putF m ρ K (off_F c 0 rfl rfl) (chunk_of m ρ hv) ?_
  refine recvT m ρ K ?_
  exact done_ret hk

theorem part6 {Q : (Σ' (_ : BitVec 32), FVec F S128x64 .f32) → sProp 𝕄} (hk : ∀ w v, k0_pay10 v = chunkAt m ρ c (src true c 2) → St m ρ K c 3 2 0 3 2 0 2 1 ⊢ Q ⟨w, v⟩) :
    St m ρ K c 2 2 0 2 1 0 2 1 ⊢ Wp c (on (k0_part6 (F := F)) c v2 v4 (gs m ρ c) (wb m ρ c)) Q := by
  rw [k0_part6_eq_skeleton]; unfold on k0_part6_skel
  simp only [Prog.lift, Prog.bind_op, Prog.bind_ret, Prog.pure_eq_ret]
  refine startT m ρ K (dev_T (k0_dev7_eq c)) ?_
  refine recvF m ρ K ?_
  refine startF m ρ K (dev_F (k0_dev8_eq c)) ?_
  refine loadT m ρ K fun v hv => ?_
  exact done_ret (hk _ _ (chunk_of m ρ hv))

theorem part7 {v} (hv : k0_pay10 v = chunkAt m ρ c (src true c 2)) {Q : BitVec 32 → sProp 𝕄} (hk : ∀ w, St m ρ K c 3 3 0 3 2 0 3 2 ⊢ Q w) :
    St m ρ K c 3 2 0 3 2 0 2 1 ⊢ Wp c (on (k0_part7 (F := F)) c v2 v6 (gs m ρ c) (wb m ρ c) w v) Q := by
  rw [k0_part7_eq_skeleton]; unfold on k0_part7_skel
  simp only [Prog.lift, Prog.bind_op, Prog.bind_ret, Prog.pure_eq_ret]
  refine putT m ρ K (off_T c 14 rfl rfl) (hv) ?_
  refine loadF m ρ K fun v hv => ?_
  refine putF m ρ K (off_F c 1 rfl rfl) (chunk_of m ρ hv) ?_
  refine recvT m ρ K ?_
  exact done_ret (hk _)

theorem part8 {Q} (hk : St m ρ K c 4 3 0 4 3 0 3 2 ⊢ Q ⟨⟩) :
    St m ρ K c 3 3 0 3 2 0 3 2 ⊢ Wp c (on (k0_part8 (F := F)) c v4 v6 w) Q := by
  rw [k0_part8_eq_skeleton]; unfold on k0_part8_skel
  simp only [Prog.lift, Prog.bind_op, Prog.bind_ret, Prog.pure_eq_ret]
  refine startT m ρ K (dev_T (k0_dev9_eq c)) ?_
  refine recvF m ρ K ?_
  refine startF m ρ K (dev_F (k0_dev10_eq c)) ?_
  exact done_ret hk

theorem part9 {Q} (hk : St m ρ K c 4 3 0 4 3 0 4 3 ⊢ Q ⟨⟩) :
    St m ρ K c 4 3 0 4 3 0 3 2 ⊢ Wp c (on (k0_part9 (F := F)) c v2 v6 (gs m ρ c) (wb m ρ c)) Q := by
  rw [k0_part9_eq_skeleton]; unfold on k0_part9_skel
  simp only [Prog.lift, Prog.bind_op, Prog.bind_ret, Prog.pure_eq_ret]
  refine loadT m ρ K fun v hv => ?_
  refine putT m ρ K (off_T c 13 rfl rfl) (chunk_of m ρ hv) ?_
  refine loadF m ρ K fun v hv => ?_
  refine putF m ρ K (off_F c 2 rfl rfl) (chunk_of m ρ hv) ?_
  exact done_ret hk

theorem part10 {Q : (Σ' (_ : BitVec 32), BitVec 32) → sProp 𝕄} (hk : ∀ w w', St m ρ K c 5 4 0 4 4 0 4 3 ⊢ Q ⟨w, w'⟩) :
    St m ρ K c 4 3 0 4 3 0 4 3 ⊢ Wp c (on (k0_part10 (F := F)) c v4 v6) Q := by
  rw [k0_part10_eq_skeleton]; unfold on k0_part10_skel
  simp only [Prog.lift, Prog.bind_op, Prog.bind_ret, Prog.pure_eq_ret]
  refine recvT m ρ K ?_
  refine startT m ρ K (dev_T (k0_dev11_eq c)) ?_
  refine recvF m ρ K ?_
  exact done_ret (hk _ _)

theorem part11 {Q} (hk : St m ρ K c 5 4 0 5 4 0 5 4 ⊢ Q ⟨⟩) :
    St m ρ K c 5 4 0 4 4 0 4 3 ⊢ Wp c (on (k0_part11 (F := F)) c v2 (gs m ρ c) (wb m ρ c) w w') Q := by
  rw [k0_part11_eq_skeleton]; unfold on k0_part11_skel
  simp only [Prog.lift, Prog.bind_op, Prog.bind_ret, Prog.pure_eq_ret]
  refine startF m ρ K (dev_F (k0_dev12_eq c)) ?_
  refine loadT m ρ K fun v hv => ?_
  refine putT m ρ K (off_T c 12 rfl rfl) (chunk_of m ρ hv) ?_
  refine loadF m ρ K fun v hv => ?_
  refine putF m ρ K (off_F c 3 rfl rfl) (chunk_of m ρ hv) ?_
  exact done_ret hk

theorem part12 {Q} (hk : St m ρ K c 6 5 0 5 4 0 5 4 ⊢ Q ⟨⟩) :
    St m ρ K c 5 4 0 5 4 0 5 4 ⊢ Wp c (on (k0_part12 (F := F)) c v4 v6) Q := by
  rw [k0_part12_eq_skeleton]; unfold on k0_part12_skel
  simp only [Prog.lift, Prog.bind_op, Prog.bind_ret, Prog.pure_eq_ret]
  refine recvT m ρ K ?_
  refine startT m ρ K (dev_T (k0_dev13_eq c)) ?_
  exact done_ret hk

theorem part13 {Q : (Σ' (_ : IVec S128x4096 8) (_ : BitVec 32), BitVec 32) → sProp 𝕄} (hk : ∀ X w w', X = blkAt m ρ false c 5 → St m ρ K c 6 5 0 6 5 0 6 4 ⊢ Q ⟨X, w, w'⟩) :
    St m ρ K c 6 5 0 5 4 0 5 4 ⊢ Wp c (on (k0_part13 (F := F)) c v2 v4 (gs m ρ c) (wb m ρ c)) Q := by
  rw [k0_part13_eq_skeleton]; unfold on k0_part13_skel
  simp only [Prog.lift, Prog.bind_op, Prog.bind_ret, Prog.pure_eq_ret]
  refine recvF m ρ K ?_
  refine startF m ρ K (dev_F (k0_dev14_eq c)) ?_
  refine loadT m ρ K fun v hv => ?_
  refine putT m ρ K (off_T c 11 rfl rfl) (chunk_of m ρ hv) ?_
  refine loadF m ρ K fun v hv => ?_
  exact done_ret (hk _ _ _ hv)

theorem part14 {v} (hv : v = blkAt m ρ false c 5) {Q} (hk : St m ρ K c 7 6 0 6 5 0 6 5 ⊢ Q ⟨⟩) :
    St m ρ K c 6 5 0 6 5 0 6 4 ⊢ Wp c (on (k0_part14 (F := F)) c v6 (gs m ρ c) (wb m ρ c) v w w') Q := by
  rw [k0_part14_eq_skeleton]; unfold on k0_part14_skel
  simp only [Prog.lift, Prog.bind_op, Prog.bind_ret, Prog.pure_eq_ret]
  refine putF m ρ K (off_F c 4 rfl rfl) (chunk_of m ρ hv) ?_
  refine recvT m ρ K ?_
  refine startT m ρ K (dev_T (k0_dev15_eq c)) ?_
  exact done_ret hk

theorem part15 {Q : (Σ' (_ : FVec F S128x64 .f32), BitVec 32) → sProp 𝕄} (hk : ∀ v w, v = chunkAt m ρ c (src true c 6) → St m ρ K c 7 6 0 7 6 0 6 5 ⊢ Q ⟨v, w⟩) :
    St m ρ K c 7 6 0 6 5 0 6 5 ⊢ Wp c (on (k0_part15 (F := F)) c v2 v4 (gs m ρ c) (wb m ρ c)) Q := by
  rw [k0_part15_eq_skeleton]; unfold on k0_part15_skel
  simp only [Prog.lift, Prog.bind_op, Prog.bind_ret, Prog.pure_eq_ret]
  refine recvF m ρ K ?_
  refine startF m ρ K (dev_F (k0_dev16_eq c)) ?_
  refine loadT m ρ K fun v hv => ?_
  exact done_ret (hk _ _ (chunk_of m ρ hv))

theorem part16 {v} (hv : v = chunkAt m ρ c (src true c 6)) {Q} (hk : St m ρ K c 7 7 0 7 6 0 7 6 ⊢ Q ⟨⟩) :
    St m ρ K c 7 6 0 7 6 0 6 5 ⊢ Wp c (on (k0_part16 (F := F)) c v2 v6 (gs m ρ c) (wb m ρ c) v w) Q := by
  rw [k0_part16_eq_skeleton]; unfold on k0_part16_skel
  simp only [Prog.lift, Prog.bind_op, Prog.bind_ret, Prog.pure_eq_ret]
  refine putT m ρ K (off_T c 10 rfl rfl) (hv) ?_
  refine loadF m ρ K fun v hv => ?_
  refine putF m ρ K (off_F c 5 rfl rfl) (chunk_of m ρ hv) ?_
  refine recvT m ρ K ?_
  exact done_ret hk

theorem part17 {Q : (Vec F S1x128x4096 .i8) → sProp 𝕄} (hk : ∀ v, shapeCast S128x4096 v shapeCasts_S1x128x4096_S128x4096 = blkAt m ρ true c 7 → St m ρ K c 8 7 0 8 7 0 7 6 ⊢ Q v) :
    St m ρ K c 7 7 0 7 6 0 7 6 ⊢ Wp c (on (k0_part17 (F := F)) c v4) Q := by
  rw [k0_part17_eq_skeleton]; unfold on k0_part17_skel
  simp only [Prog.lift, Prog.bind_op, Prog.bind_ret, Prog.pure_eq_ret]
  refine startT m ρ K (dev_T (k0_dev17_eq c)) ?_
  refine recvF m ρ K ?_
  refine startF m ρ K (dev_F (k0_dev18_eq c)) ?_
  refine loadT m ρ K fun v hv => ?_
  exact done_ret (hk _ hv)

theorem part18 {v} (hv : shapeCast S128x4096 v shapeCasts_S1x128x4096_S128x4096 = blkAt m ρ true c 7) {Q} (hk : St m ρ K c 8 7 0 8 7 0 8 7 ⊢ Q ⟨⟩) :
    St m ρ K c 8 7 0 8 7 0 7 6 ⊢ Wp c (on (k0_part18 (F := F)) c v2 v6 (gs m ρ c) (wb m ρ c) v) Q := by
  rw [k0_part18_eq_skeleton]; unfold on k0_part18_skel
  simp only [Prog.lift, Prog.bind_op, Prog.bind_ret, Prog.pure_eq_ret]
  refine putT m ρ K (off_T c 9 rfl rfl) (chunk_of m ρ hv) ?_
  refine loadF m ρ K fun v hv => ?_
  refine putF m ρ K (off_F c 6 rfl rfl) (chunk_of m ρ hv) ?_
  exact done_ret hk

theorem part19 {Q} (hk : St m ρ K c 9 8 0 8 8 0 8 7 ⊢ Q ⟨⟩) :
    St m ρ K c 8 7 0 8 7 0 8 7 ⊢ Wp c (on (k0_part19 (F := F)) c v4 v6) Q := by
  rw [k0_part19_eq_skeleton]; unfold on k0_part19_skel
  simp only [Prog.lift, Prog.bind_op, Prog.bind_ret, Prog.pure_eq_ret]
  refine recvT m ρ K ?_
  refine startT m ρ K (dev_T (k0_dev19_eq c)) ?_
  refine recvF m ρ K ?_
  exact done_ret hk

theorem part20 {Q} (hk : St m ρ K c 9 8 0 9 8 0 9 8 ⊢ Q ⟨⟩) :
    St m ρ K c 9 8 0 8 8 0 8 7 ⊢ Wp c (on (k0_part20 (F := F)) c v2 (gs m ρ c) (wb m ρ c)) Q := by
  rw [k0_part20_eq_skeleton]; unfold on k0_part20_skel
  simp only [Prog.lift, Prog.bind_op, Prog.bind_ret, Prog.pure_eq_ret]
  refine startF m ρ K (dev_F (k0_dev20_eq c)) ?_
  refine loadT m ρ K fun v hv => ?_
  refine putT m ρ K (off_T c 8 rfl rfl) (chunk_of m ρ hv) ?_
  refine loadF m ρ K fun v hv => ?_
  refine putF m ρ K (off_F c 7 rfl rfl) (chunk_of m ρ hv) ?_
  exact done_ret hk

theorem part21 {Q} (hk : St m ρ K c 10 9 0 9 8 0 9 8 ⊢ Q ⟨⟩) :
    St m ρ K c 9 8 0 9 8 0 9 8 ⊢ Wp c (on (k0_part21 (F := F)) c v4 v6) Q := by
  rw [k0_part21_eq_skeleton]; unfold on k0_part21_skel
  simp only [Prog.lift, Prog.bind_op, Prog.bind_ret, Prog.pure_eq_ret]
  refine recvT m ρ K ?_
  refine startT m ρ K (dev_T (k0_dev21_eq c)) ?_
  exact done_ret hk

theorem part22 {Q : (Σ' (_ : BitVec 32), FVec F S128x64 .f32) → sProp 𝕄} (hk : ∀ w v, k0_pay27 (gs m ρ c) v = chunkAt m ρ c (src false c 9) → St m ρ K c 10 9 0 10 9 0 10 8 ⊢ Q ⟨w, v⟩) :
    St m ρ K c 10 9 0 9 8 0 9 8 ⊢ Wp c (on (k0_part22 (F := F)) c v2 v4 (gs m ρ c) (wb m ρ c)) Q := by
  rw [k0_part22_eq_skeleton]; unfold on k0_part22_skel
  simp only [Prog.lift, Prog.bind_op, Prog.bind_ret, Prog.pure_eq_ret]
  refine recvF m ρ K ?_
  refine startF m ρ K (dev_F (k0_dev22_eq c)) ?_
  refine loadT m ρ K fun v hv => ?_
  refine putT m ρ K (off_T c 7 rfl rfl) (chunk_of m ρ hv) ?_
  refine loadF m ρ K fun v hv => ?_
  exact done_ret (hk _ _ (chunk_of m ρ hv))

theorem part23 {v} (hv : k0_pay27 (gs m ρ c) v = chunkAt m ρ c (src false c 9)) {Q} (hk : St m ρ K c 11 10 0 10 9 0 10 9 ⊢ Q ⟨⟩) :
    St m ρ K c 10 9 0 10 9 0 10 8 ⊢ Wp c (on (k0_part23 (F := F)) c v6 (gs m ρ c) w v) Q := by
  rw [k0_part23_eq_skeleton]; unfold on k0_part23_skel
  simp only [Prog.lift, Prog.bind_op, Prog.bind_ret, Prog.pure_eq_ret]
  refine putF m ρ K (off_F c 8 rfl rfl) (hv) ?_
  refine recvT m ρ K ?_
  refine startT m ρ K (dev_T (k0_dev23_eq c)) ?_
  exact done_ret hk

theorem part24 {Q} (hk : St m ρ K c 11 10 0 11 10 0 11 9 ⊢ Q ⟨⟩) :
    St m ρ K c 11 10 0 10 9 0 10 9 ⊢ Wp c (on (k0_part24 (F := F)) c v2 v4 (gs m ρ c) (wb m ρ c)) Q := by
  rw [k0_part24_eq_skeleton]; unfold on k0_part24_skel
  simp only [Prog.lift, Prog.bind_op, Prog.bind_ret, Prog.pure_eq_ret]
  refine recvF m ρ K ?_
  refine startF m ρ K (dev_F (k0_dev24_eq c)) ?_
  refine loadT m ρ K fun v hv => ?_
  refine putT m ρ K (off_T c 6 rfl rfl) (chunk_of m ρ hv) ?_
  exact done_ret hk

theorem part25 {Q} (hk : St m ρ K c 11 11 0 11 10 0 11 10 ⊢ Q ⟨⟩) :
    St m ρ K c 11 10 0 11 10 0 11 9 ⊢ Wp c (on (k0_part25 (F := F)) c v2 v6 (gs m ρ c) (wb m ρ c)) Q := by
  rw [k0_part25_eq_skeleton]; unfold on k0_part25_skel
  simp only [Prog.lift, Prog.bind_op, Prog.bind_ret, Prog.pure_eq_ret]
  refine loadF m ρ K fun v hv => ?_
  refine putF m ρ K (off_F c 9 rfl rfl) (chunk_of m ρ hv) ?_
  refine recvT m ρ K ?_
  exact done_ret hk

theorem part26 {Q : (Σ' (_ : IVec S128x4096 8) (_ : BitVec 32), BitVec 32) → sProp 𝕄} (hk : ∀ X w w', X = blkAt m ρ true c 11 → St m ρ K c 12 11 0 12 11 0 11 10 ⊢ Q ⟨X, w, w'⟩) :
    St m ρ K c 11 11 0 11 10 0 11 10 ⊢ Wp c (on (k0_part26 (F := F)) c v2 v4) Q := by
  rw [k0_part26_eq_skeleton]; unfold on k0_part26_skel
  simp only [Prog.lift, Prog.bind_op, Prog.bind_ret, Prog.pure_eq_ret]
  refine startT m ρ K (dev_T (k0_dev25_eq c)) ?_
  refine recvF m ρ K ?_
  refine startF m ρ K (dev_F (k0_dev26_eq c)) ?_
  refine loadT m ρ K fun v hv => ?_
  exact done_ret (hk _ _ _ hv)

theorem part27 {v} (hv : v = blkAt m ρ true c 11) {Q} (hk : St m ρ K c 12 12 0 12 11 0 12 11 ⊢ Q ⟨⟩) :
    St m ρ K c 12 11 0 12 11 0 11 10 ⊢ Wp c (on (k0_part27 (F := F)) c v2 v6 (gs m ρ c) (wb m ρ c) v w w') Q := by
  rw [k0_part27_eq_skeleton]; unfold on k0_part27_skel
  simp only [Prog.lift, Prog.bind_op, Prog.bind_ret, Prog.pure_eq_ret]
  refine putT m ρ K (off_T c 5 rfl rfl) (chunk_of m ρ hv) ?_
  refine loadF m ρ K fun v hv => ?_
  refine putF m ρ K (off_F c 10 rfl rfl) (chunk_of m ρ hv) ?_
  refine recvT m ρ K ?_
  exact done_ret hk

theorem part28 {Q} (hk : St m ρ K c 13 12 0 12 12 0 12 11 ⊢ Q ⟨⟩) :
    St m ρ K c 12 12 0 12 11 0 12 11 ⊢ Wp c (on (k0_part28 (F := F)) c v4 v6) Q := by
  rw [k0_part28_eq_skeleton]; unfold on k0_part28_skel
  simp only [Prog.lift, Prog.bind_op, Prog.bind_ret, Prog.pure_eq_ret]
  refine startT m ρ K (dev_T (k0_dev27_eq c)) ?_
  refine recvF m ρ K ?_
  exact done_ret hk

theorem part29 {Q : BitVec 32 → sProp 𝕄} (hk : ∀ w, St m ρ K c 13 12 0 13 12 0 13 12 ⊢ Q w) :
    St m ρ K c 13 12 0 12 12 0 12 11 ⊢ Wp c (on (k0_part29 (F := F)) c v2 v6 (gs m ρ c) (wb m ρ c)) Q := by
  rw [k0_part29_eq_skeleton]; unfold on k0_part29_skel
  simp only [Prog.lift, Prog.bind_op, Prog.bind_ret, Prog.pure_eq_ret]
  refine startF m ρ K (dev_F (k0_dev28_eq c)) ?_
  refine loadT m ρ K fun v hv => ?_
  refine putT m ρ K (off_T c 4 rfl rfl) (chunk_of m ρ hv) ?_
  refine loadF m ρ K fun v hv => ?_
  refine putF m ρ K (off_F c 11 rfl rfl) (chunk_of m ρ hv) ?_
  exact done_ret (hk _)

theorem part30 {Q} (hk : St m ρ K c 14 13 0 13 13 0 13 12 ⊢ Q ⟨⟩) :
    St m ρ K c 13 12 0 13 12 0 13 12 ⊢ Wp c (on (k0_part30 (F := F)) c v4 v6 w) Q := by
  rw [k0_part30_eq_skeleton]; unfold on k0_part30_skel
  simp only [Prog.lift, Prog.bind_op, Prog.bind_ret, Prog.pure_eq_ret]
  refine recvT m ρ K ?_
  refine startT m ρ K (dev_T (k0_dev29_eq c)) ?_
  refine recvF m ρ K ?_
  exact done_ret hk

theorem part31 {Q : (Σ' (_ : BitVec 32), FVec F S128x64 .f32) → sProp 𝕄} (hk : ∀ w v, v = chunkAt m ρ c (src false c 13) → St m ρ K c 14 13 0 14 13 0 14 12 ⊢ Q ⟨w, v⟩) :
    St m ρ K c 14 13 0 13 13 0 13 12 ⊢ Wp c (on (k0_part31 (F := F)) c v2 v4 (gs m ρ c) (wb m ρ c)) Q := by
  rw [k0_part31_eq_skeleton]; unfold on k0_part31_skel
  simp only [Prog.lift, Prog.bind_op, Prog.bind_ret, Prog.pure_eq_ret]
  refine startF m ρ K (dev_F (k0_dev30_eq c)) ?_
  refine loadT m ρ K fun v hv => ?_
  refine putT m ρ K (off_T c 3 rfl rfl) (chunk_of m ρ hv) ?_
  refine loadF m ρ K fun v hv => ?_
  exact done_ret (hk _ _ (chunk_of m ρ hv))

theorem part32 {v} (hv : v = chunkAt m ρ c (src false c 13)) {Q} (hk : St m ρ K c 15 14 0 14 13 0 14 13 ⊢ Q ⟨⟩) :
    St m ρ K c 14 13 0 14 13 0 14 12 ⊢ Wp c (on (k0_part32 (F := F)) c v4 v6 w v) Q := by
  rw [k0_part32_eq_skeleton]; unfold on k0_part32_skel
  simp only [Prog.lift, Prog.bind_op, Prog.bind_ret, Prog.pure_eq_ret]
  refine putF m ρ K (off_F c 12 rfl rfl) (hv) ?_
  refine recvT m ρ K ?_
  refine startT m ρ K (dev_T (k0_dev31_eq c)) ?_
  exact done_ret hk

theorem part33 {Q : (Vec F S1x128x4096 .i8) → sProp 𝕄} (hk : ∀ v, shapeCast S128x4096 v shapeCasts_S1x128x4096_S128x4096 = blkAt m ρ false c 14 → St m ρ K c 15 14 0 15 14 0 15 13 ⊢ Q v) :
    St m ρ K c 15 14 0 14 13 0 14 13 ⊢ Wp c (on (k0_part33 (F := F)) c v2 v4 (gs m ρ c) (wb m ρ c)) Q := by
  rw [k0_part33_eq_skeleton]; unfold on k0_part33_skel
  simp only [Prog.lift, Prog.bind_op, Prog.bind_ret, Prog.pure_eq_ret]
  refine recvF m ρ K ?_
  refine startF m ρ K (dev_F (k0_dev32_eq c)) ?_
  refine loadT m ρ K fun v hv => ?_
  refine putT m ρ K (off_T c 2 rfl rfl) (chunk_of m ρ hv) ?_
  refine loadF m ρ K fun v hv => ?_
  exact done_ret (hk _ hv)

theorem part34 {v} (hv : shapeCast S128x4096 v shapeCasts_S1x128x4096_S128x4096 = blkAt m ρ false c 14) {Q} (hk : St m ρ K c 15 15 0 15 14 0 15 14 ⊢ Q ⟨⟩) :
    St m ρ K c 15 14 0 15 14 0 15 13 ⊢ Wp c (on (k0_part34 (F := F)) c v2 v6 (gs m ρ c) (wb m ρ c) v) Q := by
  rw [k0_part34_eq_skeleton]; unfold on k0_part34_skel
  simp only [Prog.lift, Prog.bind_op, Prog.bind_ret, Prog.pure_eq_ret]
  refine putF m ρ K (off_F c 13 rfl rfl) (chunk_of m ρ hv) ?_
  refine recvT m ρ K ?_
  exact done_ret hk

theorem part35 {Q : (Σ' (_ : BitVec 32), IVec S128x64 32) → sProp 𝕄} (hk : ∀ w v, k0_pay41 (gs m ρ c) v = chunkAt m ρ c (src false c 15) → St m ρ K c 16 15 0 15 15 0 16 14 ⊢ Q ⟨w, v⟩) :
    St m ρ K c 15 15 0 15 14 0 15 14 ⊢ Wp c (on (k0_part35 (F := F)) c v2 v4 (gs m ρ c) (wb m ρ c)) Q := by
  rw [k0_part35_eq_skeleton]; unfold on k0_part35_skel
  simp only [Prog.lift, Prog.bind_op, Prog.bind_ret, Prog.pure_eq_ret]
  refine startT m ρ K (dev_T (k0_dev33_eq c)) ?_
  refine recvF m ρ K ?_
  refine loadT m ρ K fun v hv => ?_
  refine putT m ρ K (off_T c 1 rfl rfl) (chunk_of m ρ hv) ?_
  refine loadF m ρ K fun v hv => ?_
  exact done_ret (hk _ _ (chunk_of m ρ hv))

theorem part36 {v} (hv : k0_pay41 (gs m ρ c) v = chunkAt m ρ c (src false c 15)) {Q} (hk : St m ρ K c 16 16 0 15 15 0 17 15 ⊢ Q ⟨⟩) :
    St m ρ K c 16 15 0 15 15 0 16 14 ⊢ Wp c (on (k0_part36 (F := F)) c v2 v6 (gs m ρ c) (wb m ρ c) w v) Q := by
  rw [k0_part36_eq_skeleton]; unfold on k0_part36_skel
  simp only [Prog.lift, Prog.bind_op, Prog.bind_ret, Prog.pure_eq_ret]
  refine putF m ρ K (off_F c 14 rfl rfl) (hv) ?_
  refine recvT m ρ K ?_
  refine loadT m ρ K fun v hv => ?_
  refine putT m ρ K (off_T c 0 rfl rfl) (chunk_of m ρ hv) ?_
  exact done_ret hk

theorem part37 {Q} (hk : St m ρ K c 16 16 3 15 15 0 17 15 ⊢ Q ⟨⟩) :
    St m ρ K c 16 16 0 15 15 0 17 15 ⊢ Wp c (on (k0_part37 (F := F))) Q := by
  rw [k0_part37_eq_skeleton]; unfold on k0_part37_skel
  simp only [Prog.lift, Prog.bind_op, Prog.bind_ret, Prog.pure_eq_ret]
  refine sentT m ρ K ?_
  refine sentT m ρ K ?_
  refine sentT m ρ K ?_
  exact done_ret hk

theorem part38 {Q} (hk : St m ρ K c 16 16 7 15 15 0 17 15 ⊢ Q ⟨⟩) :
    St m ρ K c 16 16 3 15 15 0 17 15 ⊢ Wp c (on (k0_part38 (F := F))) Q := by
  rw [k0_part38_eq_skeleton]; unfold on k0_part38_skel
  simp only [Prog.lift, Prog.bind_op, Prog.bind_ret, Prog.pure_eq_ret]
  refine sentT m ρ K ?_
  refine sentT m ρ K ?_
  refine sentT m ρ K ?_
  refine sentT m ρ K ?_
  exact done_ret hk

theorem part39 {Q} (hk : St m ρ K c 16 16 10 15 15 0 17 15 ⊢ Q ⟨⟩) :
    St m ρ K c 16 16 7 15 15 0 17 15 ⊢ Wp c (on (k0_part39 (F := F))) Q := by
  rw [k0_part39_eq_skeleton]; unfold on k0_part39_skel
  simp only [Prog.lift, Prog.bind_op, Prog.bind_ret, Prog.pure_eq_ret]
  refine sentT m ρ K ?_
  refine sentT m ρ K ?_
  refine sentT m ρ K ?_
  exact done_ret hk

theorem part40 {Q} (hk : St m ρ K c 16 16 13 15 15 0 17 15 ⊢ Q ⟨⟩) :
    St m ρ K c 16 16 10 15 15 0 17 15 ⊢ Wp c (on (k0_part40 (F := F))) Q := by
  rw [k0_part40_eq_skeleton]; unfold on k0_part40_skel
  simp only [Prog.lift, Prog.bind_op, Prog.bind_ret, Prog.pure_eq_ret]
  refine sentT m ρ K ?_
  refine sentT m ρ K ?_
  refine sentT m ρ K ?_
  exact done_ret hk

theorem part41 {Q} (hk : St m ρ K c 16 16 16 15 15 1 17 15 ⊢ Q ⟨⟩) :
    St m ρ K c 16 16 13 15 15 0 17 15 ⊢ Wp c (on (k0_part41 (F := F))) Q := by
  rw [k0_part41_eq_skeleton]; unfold on k0_part41_skel
  simp only [Prog.lift, Prog.bind_op, Prog.bind_ret, Prog.pure_eq_ret]
  refine sentT m ρ K ?_
  refine sentT m ρ K ?_
  refine sentT m ρ K ?_
  refine sentF m ρ K ?_
  exact done_ret hk

theorem part42 {Q} (hk : St m ρ K c 16 16 16 15 15 4 17 15 ⊢ Q ⟨⟩) :
    St m ρ K c 16 16 16 15 15 1 17 15 ⊢ Wp c (on (k0_part42 (F := F))) Q := by
  rw [k0_part42_eq_skeleton]; unfold on k0_part42_skel
  simp only [Prog.lift, Prog.bind_op, Prog.bind_ret, Prog.pure_eq_ret]
  refine sentF m ρ K ?_
  refine sentF m ρ K ?_
  refine sentF m ρ K ?_
  exact done_ret hk

theorem part43 {Q} (hk : St m ρ K c 16 16 16 15 15 7 17 15 ⊢ Q ⟨⟩) :
    St m ρ K c 16 16 16 15 15 4 17 15 ⊢ Wp c (on (k0_part43 (F := F))) Q := by
  rw [k0_part43_eq_skeleton]; unfold on k0_part43_skel
  simp only [Prog.lift, Prog.bind_op, Prog.bind_ret, Prog.pure_eq_ret]
  refine sentF m ρ K ?_
  refine sentF m ρ K ?_
  refine sentF m ρ K ?_
  exact done_ret hk

theorem part44 {Q} (hk : St m ρ K c 16 16 16 15 15 11 17 15 ⊢ Q ⟨⟩) :
    St m ρ K c 16 16 16 15 15 7 17 15 ⊢ Wp c (on (k0_part44 (F := F))) Q := by
  rw [k0_part44_eq_skeleton]; unfold on k0_part44_skel
  simp only [Prog.lift, Prog.bind_op, Prog.bind_ret, Prog.pure_eq_ret]
  refine sentF m ρ K ?_
  refine sentF m ρ K ?_
  refine sentF m ρ K ?_
  refine sentF m ρ K ?_
  exact done_ret hk

theorem part45 {Q} (hk : St m ρ K c 16 16 16 15 15 14 17 15 ⊢ Q ⟨⟩) :
    St m ρ K c 16 16 16 15 15 11 17 15 ⊢ Wp c (on (k0_part45 (F := F))) Q := by
  rw [k0_part45_eq_skeleton]; unfold on k0_part45_skel
  simp only [Prog.lift, Prog.bind_op, Prog.bind_ret, Prog.pure_eq_ret]
  refine sentF m ρ K ?_
  refine sentF m ρ K ?_
  refine sentF m ρ K ?_
  exact done_ret hk

end Cert.KernelIdeal.Gather

end
-- ==== Proof.Ideal.Preamble.lean ====
/-
# Up to the first hops

What a device holds when its kernel starts, and what the first two parts of the body make of it: the two signals and the
wait at the barrier, which trade slots with the neighbours, the device's own block stored in slot 0 of both buffers, and
the first hop of each direction.
-/
module

public import proofs.«01_k».proof.Proof.Ideal.Parts

@[expose] public section

set_option maxRecDepth 16384

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 63 → ℕ)

/-- The two duties a hop pays. -/
def pay (b : Bool) (c : Dev nD) (h : ℕ) : sProp 𝕄 :=
  iprop(dutyTok ER (cell (nb b c) (rcv b h)) 0 false ∗ dutyTok ER (cell c (snd b h)) 0 false)

/-- A direction's duties, credits and positions. -/
def Half (b : Bool) (c : Dev nD) : sProp 𝕄 :=
  iprop(bigSep (Finset.Ico 0 (hops b)) (pay b c) ∗ bigSep (Finset.Ico 0 (hops b)) (arr b c) ∗ bigSep (Finset.Ico 0 (hops b)) (spos b c))

/-- The neighbour's slots, each with the duties of the hop that lands in it. -/
theorem todo_intro (b : Bool) (c : Dev nD) :
    iprop(bigSep (Finset.Ico 0 (hops b)) (pay (F := F) b c) ∗ barPay c b) ⊢ bigSep (Finset.Ico 0 (hops b)) (todo b c) := by
  have hs : barPay (F := F) c b = bigSep (Finset.Ico 0 (hops b)) fun h => slotAny b (nb b c) (h + 1) := by
    unfold barPay
    rw [show Finset.Ico 1 (hops b + 1) = (Finset.Ico 0 (hops b)).map (addRightEmbedding 1) from
      (Finset.map_add_right_Ico 0 (hops b) 1).symm, bigSep_map]
    rfl
  rw [hs, ← bigSep_sep']
  refine bigSep_mono fun h _ => ?_
  show iprop(pay b c h ∗ slotAny b (nb b c) (h + 1)) ⊢ todo b c h
  unfold pay todo
  iintro ⟨⟨H1, H2⟩, H3⟩
  isplitl [H1]; · iexact H1
  isplitl [H2] <;> iassumption

/-- With the neighbour's slots and the own block in slot 0 a direction is ready. -/
theorem dir_zero (b : Bool) (c : Dev nD) :
    iprop(Half b c ∗ barPay c b ∗ slot b c 0 fullShare (xb m ρ c)) ⊢ Dir m ρ b c 0 0 0 := by
  have hx : slot b c 0 fullShare (xb m ρ c) = (slot b c 0 fullShare (blkAt m ρ b c 0) : sProp 𝕄) := by
    unfold blkAt; rw [src_zero]
  rw [hx]
  unfold Dir Half
  rw [ico_bot (Nat.zero_lt_succ 0) (kept m ρ b c), ico_bot (Nat.zero_lt_succ 0) (lent m ρ b c), Finset.Ico_self]
  simp only [bigSep_empty]
  iintro ⟨⟨H1, H2, H3⟩, Hb, Hs⟩
  ihave Hs := (slot_halves b c 0 (blkAt m ρ b c 0)).1 $$ Hs
  icases Hs with ⟨Hl, Hr⟩
  isplitl [H1 Hb]
  · iapply (todo_intro b c); isplitl [H1] <;> iassumption
  isplitl [H2]; · iexact H2
  isplitr; · iempintro
  isplitl [H3]; · iexact H3
  isplitl [Hr]
  · unfold kept; isplitl [Hr]; · iexact Hr
    iempintro
  isplitl [Hl]
  · unfold lent; isplitl [Hl]; · iexact Hl
    iempintro
  isplitr; · iempintro
  isplitr <;> iempintro

/-- Device `c` when its kernel starts. -/
def Pre (c : Dev nD) : sProp 𝕄 :=
  iprop((records m ρ K ∗ levAts L lv) ∗ (∃ W, owes (c : Thread nD τ) (O₀ c) W)
    ∗ (dutyTok ER (bar (nb false c)) 0 true ∗ dutyTok ER (bar (nb true c)) 0 false)
    ∗ (cred (tallyAt (bar c) () 2) ∗ atPos ER (bar c) 0 ∅ 0)
    ∗ (Half true c ∗ slotAny true c 0 ∗ bigSep (Finset.Ico 1 (hops true + 1)) fun s => slotAny true c s)
    ∗ (Half false c ∗ slotAny false c 0 ∗ bigSep (Finset.Ico 1 (hops false + 1)) fun s => slotAny false c s)
    ∗ Inp m ρ c ∗ ∃ f, (((c : Thread nD τ).loc cc0_stg4_0) ↦{fullShare} f))

/-- Device `c` with its block stored for the clockwise direction only. -/
def Mid (c : Dev nD) : sProp 𝕄 :=
  iprop((records m ρ K ∗ levAts L lv) ∗ (∃ W, owes (c : Thread nD τ) (owed true c 0 + owed false c 0) W)
    ∗ Dir m ρ true c 0 0 0 ∗ (Half false c ∗ barPay c false ∗ slotAny false c 0)
    ∗ (Inp m ρ c ∗ atPos ER (bar c) (0 + 1) ∅ 0) ∗ Out m ρ c 0 0)

/-- Storing the own block in a slot: what the slot then reads as. -/
theorem pay_own (X : Blk F) : shapeCast S128x4096 (k0_pay3 X) shapeCasts_S1x128x4096_S128x4096 = X := by
  unfold k0_pay3
  rw [shapeCast_shapeCast, shapeCast_self]

theorem memT_read_acc {s : ℕ} (inb : ∀ a, (![s, 0, 0] : Fin 3 → Nat) a + S1x128x4096.size a ≤ S17x128x4096.size a) (f : S17x128x4096.Idx → Elt F .i8) :
    (memT s inb).view.read (Elt F) f = shapeCast S128x4096
      (((Memref.whole cc0_scratch0 : Memref sig .tc .vmem S17x128x4096 .i8).access (rectT inb)).read (Elt F) f) shapeCasts_S1x128x4096_S128x4096 := rfl

theorem slotT_write {s : ℕ} (inb : ∀ a, (![s, 0, 0] : Fin 3 → Nat) a + S1x128x4096.size a ≤ S17x128x4096.size a) (c : Dev nD) (X : Blk F)
    (v : S1x128x4096.Idx → Elt F .i8) (hv : shapeCast S128x4096 v shapeCasts_S1x128x4096_S128x4096 = X) (f : S17x128x4096.Idx → Elt F .i8) :
    (((c : Thread nD τ).loc cc0_scratch0) ↦[setT s]{fullShare}
        ((Memref.whole cc0_scratch0 : Memref sig .tc .vmem S17x128x4096 .i8).access (rectT inb)).write (Elt F) f v Finset.univ : sProp 𝕄)
      = slot true c s fullShare X := by
  have hr : (memT s inb).view.read (Elt F)
      (((Memref.whole cc0_scratch0 : Memref sig .tc .vmem S17x128x4096 .i8).access (rectT inb)).write (Elt F) f v Finset.univ) = X :=
    by rw [memT_read_acc, View.read_write_univ, hv]
  revert hr
  generalize ((Memref.whole cc0_scratch0 : Memref sig .tc .vmem S17x128x4096 .i8).access (rectT inb)).write (Elt F) f v Finset.univ = g
  intro hr
  unfold slot
  refine pointsTo_congr fun i hi => ?_
  rw [← memT_read inb g i (Finset.mem_filter.mp hi).2, hr]
  rfl

theorem memF_read_acc {s : ℕ} (inb : ∀ a, (![s, 0, 0] : Fin 3 → Nat) a + S1x128x4096.size a ≤ S16x128x4096.size a) (f : S16x128x4096.Idx → Elt F .i8) :
    (memF s inb).view.read (Elt F) f = shapeCast S128x4096
      (((Memref.whole cc0_scratch1 : Memref sig .tc .vmem S16x128x4096 .i8).access (rectF inb)).read (Elt F) f) shapeCasts_S1x128x4096_S128x4096 := rfl

theorem slotF_write {s : ℕ} (inb : ∀ a, (![s, 0, 0] : Fin 3 → Nat) a + S1x128x4096.size a ≤ S16x128x4096.size a) (c : Dev nD) (X : Blk F)
    (v : S1x128x4096.Idx → Elt F .i8) (hv : shapeCast S128x4096 v shapeCasts_S1x128x4096_S128x4096 = X) (f : S16x128x4096.Idx → Elt F .i8) :
    (((c : Thread nD τ).loc cc0_scratch1) ↦[setF s]{fullShare}
        ((Memref.whole cc0_scratch1 : Memref sig .tc .vmem S16x128x4096 .i8).access (rectF inb)).write (Elt F) f v Finset.univ : sProp 𝕄)
      = slot false c s fullShare X := by
  have hr : (memF s inb).view.read (Elt F)
      (((Memref.whole cc0_scratch1 : Memref sig .tc .vmem S16x128x4096 .i8).access (rectF inb)).write (Elt F) f v Finset.univ) = X :=
    by rw [memF_read_acc, View.read_write_univ, hv]
  revert hr
  generalize ((Memref.whole cc0_scratch1 : Memref sig .tc .vmem S16x128x4096 .i8).access (rectF inb)).write (Elt F) f v Finset.univ = g
  intro hr
  unfold slot
  refine pointsTo_congr fun i hi => ?_
  rw [← memF_read inb g i (Finset.mem_filter.mp hi).2, hr]
  rfl

/-- The elements an access to a slot touches. -/
theorem accT_set {s : ℕ} (inb : ∀ a, (![s, 0, 0] : Fin 3 → Nat) a + S1x128x4096.size a ≤ S17x128x4096.size a) :
    (Memref.whole cc0_scratch0 : Memref sig .tc .vmem S17x128x4096 .i8).view.setOn (rectT inb).toLoadRect.set = setT s :=
  ((View.set_slice (View.whole cc0_scratch0) (rectT inb)).symm.trans (View.set_slice_whole cc0_scratch0 (rectT inb))).trans (rectT_set inb)
theorem accF_set {s : ℕ} (inb : ∀ a, (![s, 0, 0] : Fin 3 → Nat) a + S1x128x4096.size a ≤ S16x128x4096.size a) :
    (Memref.whole cc0_scratch1 : Memref sig .tc .vmem S16x128x4096 .i8).view.setOn (rectF inb).toLoadRect.set = setF s :=
  ((View.set_slice (View.whole cc0_scratch1) (rectF inb)).symm.trans (View.set_slice_whole cc0_scratch1 (rectF inb))).trans (rectF_set inb)
theorem stT_set {s : ℕ} (inb : ∀ a, (![s, 0, 0] : Fin 3 → Nat) a + S1x128x4096.size a ≤ S17x128x4096.size a) :
    ((Memref.whole cc0_scratch0 : Memref sig .tc .vmem S17x128x4096 .i8).access (rectT inb)).setOn Finset.univ = setT s :=
  (View.set_slice_whole cc0_scratch0 (rectT inb)).trans (rectT_set inb)
theorem stF_set {s : ℕ} (inb : ∀ a, (![s, 0, 0] : Fin 3 → Nat) a + S1x128x4096.size a ≤ S16x128x4096.size a) :
    ((Memref.whole cc0_scratch1 : Memref sig .tc .vmem S16x128x4096 .i8).access (rectF inb)).setOn Finset.univ = setF s :=
  (View.set_slice_whole cc0_scratch1 (rectF inb)).trans (rectF_set inb)

variable {c : Dev nD}

/-- The first part: the barrier, the scales and the weights read, the own block stored for the clockwise direction. -/
theorem part1 {Q} (hk : ∀ v2 v4 v6 : BitVec 32, Mid m ρ K c ⊢ Q ⟨c, v2, v4, v6, gs m ρ c, wb m ρ c, k0_pay3 (xb m ρ c)⟩) :
    Pre m ρ K c ⊢ Wp c (on (k0_part1 (F := F))) Q := by
  have hz : (![0, 0] : Fin 2 → Nat) = fun _ => 0 := funext fun a => by fin_cases a <;> rfl
  rw [k0_part1_eq_skeleton]; unfold on k0_part1_skel
  show Pre m ρ K c ⊢ wp frame (wpE (defs₀ (F := F)) 𝒱₀ (c : Thread nD τ) none) Set.univ _ Q
  simp only [semSignalWord, semWaitWord, smemLoad, smemLoadElt, Prog.lift, Prog.bind_op, Prog.bind_ret, Prog.pure_eq_ret, wp_deviceId]
  simp only [dev_F (k0_dev1_eq c), dev_T (k0_dev2_eq c)]
  unfold Pre O₀ Inp
  iintro ⟨⟨#Hrec, #Hlev⟩, ⟨%W, HO⟩, ⟨Ht1, Ht2⟩, ⟨Hcr, Hat⟩, ⟨HhT, H0T, HsT⟩, ⟨HhF, H0F, HsF⟩, ⟨Hx, Hw, Ha, Hb⟩, ⟨%f, Hout⟩⟩
  ihave HrL := (rec_bar m ρ K (nb false c)) $$ Hrec
  icases HrL with ⟨#HIL, #HRL⟩
  ihave HrR := (rec_bar m ρ K (nb true c)) $$ Hrec
  icases HrR with ⟨#HIR, #HRR⟩
  ihave HrC := (rec_bar m ρ K c) $$ Hrec
  icases HrC with ⟨#HIC, -⟩
  -- the lower neighbour gets the clockwise slots
  iapply (Rounds.wp_signal 𝒱₀ ER (Rd m ρ) (c : Thread nD τ) none (dst := (nb false c : Thread nD τ)) (κ := K (nb false c, 62))
      (d := true) (by rw [duties_bar]; exact Finset.mem_univ _) ((amount_bar m ρ (nb false c) true).trans (by decide)) () (O₁ c) rfl)
    $$ [HO Ht1 HsT]
  · isplitr; · iexact HIL
    isplitl [HO]; · iexact HO
    isplitl [Ht1]; · iexact Ht1
    isplitl [HsT]
    · rw [payload_bar]; unfold barPay; rw [show nb true (nb false c) = c from nb_nb true c]; iexact HsT
    iexact HRL
  iintro HO
  unfold O₁
  -- the upper neighbour the counter-clockwise ones
  iapply (Rounds.wp_signal 𝒱₀ ER (Rd m ρ) (c : Thread nD τ) none (dst := (nb true c : Thread nD τ)) (κ := K (nb true c, 62))
      (d := false) (by rw [duties_bar]; exact Finset.mem_univ _) ((amount_bar m ρ (nb true c) false).trans (by decide)) ()
      (owed true c 0 + owed false c 0) rfl)
    $$ [HO Ht2 HsF]
  · isplitr; · iexact HIR
    isplitl [HO]; · iexact HO
    isplitl [Ht2]; · iexact Ht2
    isplitl [HsF]
    · rw [payload_bar]; unfold barPay; rw [show nb false (nb true c) = c from nb_nb false c]; iexact HsF
    iexact HRR
  iintro HO
  -- the wait brings both neighbours' slots
  iapply (Rounds.wp_wait_rest_token 𝒱₀ ER (Rd m ρ) (c : Thread nD τ) none (κ := K (c, 62))
      (wpE_semWait_eq 𝒱₀ (c : Thread nD τ) none Set.univ) (Set.mem_univ _) () (O := owed true c 0 + owed false c 0) (W := W) (R := 0) (m := 0) (T := ∅)
      (by rw [expect_bar]; decide)) $$ [Hcr HO Hat]
  · isplitr; · iexact HIC
    isplitl [Hcr]; · iexact Hcr
    isplitl [HO]; · iexact HO
    isplitr
    · iapply (mayWait_owed c (.reg barS) 1 0 0 le_rfl (fun p _ _ => by show 1 < 2 + 2 * p; omega) (fun p _ _ => by show 1 < 3 + 2 * p; omega))
      iexact Hlev
    iexact Hat
  iintro ⟨HO, Hat, -, Hpay⟩
  ihave Hp := (Entails.of_eq (rest_bar m ρ c)) $$ Hpay
  icases Hp with ⟨HpF, HpT⟩
  -- the scales, the weights, the own block
  iapply (wp_load 𝒱₀ (c : Thread nD τ) none Set.univ (m := (Memref.whole cc0_stg2_0 : Memref sig .tc .smem S1 .f32)) (Finset.subset_univ _)) $$ Ha; iintro Ha
  iapply (wp_load 𝒱₀ (c : Thread nD τ) none Set.univ (m := (Memref.whole cc0_stg3_0 : Memref sig .tc .smem S1 .f32)) (Finset.subset_univ _)) $$ Hb; iintro Hb
  iapply (wp_load 𝒱₀ (c : Thread nD τ) none Set.univ (m := (Memref.whole cc0_stg1_0 : Memref sig .tc .vmem S4096x64 .i8)) (Finset.subset_univ _)) $$ Hw; iintro Hw
  iapply (wp_load 𝒱₀ (c : Thread nD τ) none Set.univ (m := (Memref.whole cc0_stg0_0 : Memref sig .tc .vmem S128x4096 .i8)) (Finset.subset_univ _)) $$ Hx; iintro Hx
  rw [show (Memref.whole cc0_stg0_0 : Memref sig .tc .vmem S128x4096 .i8).view.readAt (Elt F) _ (xb m ρ c) = xb m ρ c from Memref.readAt_unit_zero (Elt F) cc0_stg0_0 hz _ _,
    show (Memref.whole cc0_stg1_0 : Memref sig .tc .vmem S4096x64 .i8).view.readAt (Elt F) _ (wb m ρ c) = wb m ρ c from Memref.readAt_unit_zero (Elt F) cc0_stg1_0 hz _ _]
  unfold slotAny
  icases H0T with ⟨%f0, H0T⟩
  icases H0F with ⟨%f1, H0F⟩
  iapply (wp_load 𝒱₀ (c : Thread nD τ) none Set.univ (m := (Memref.whole cc0_scratch0 : Memref sig .tc .vmem S17x128x4096 .i8)) (accT_set _).subset) $$ H0T
  iintro H0T
  iapply (wp_store 𝒱₀ (c : Thread nD τ) none Set.univ (m := (Memref.whole cc0_scratch0 : Memref sig .tc .vmem S17x128x4096 .i8))
    (r := rectT inb_S17x128x4096_S1x128x4096_0_0_0) (Mk := Finset.univ) (stT_set _).subset) $$ H0T
  iintro H0T
  ihave H0T := (Entails.of_eq (slotT_write inb_S17x128x4096_S1x128x4096_0_0_0 c (xb m ρ c) (k0_pay3 (xb m ρ c)) (pay_own _) f0)) $$ H0T
  iapply (wp_load 𝒱₀ (c : Thread nD τ) none Set.univ (m := (Memref.whole cc0_stg0_0 : Memref sig .tc .vmem S128x4096 .i8)) (Finset.subset_univ _)) $$ Hx; iintro Hx
  rw [show (Memref.whole cc0_stg0_0 : Memref sig .tc .vmem S128x4096 .i8).view.readAt (Elt F) _ (xb m ρ c) = xb m ρ c from Memref.readAt_unit_zero (Elt F) cc0_stg0_0 hz _ _]
  iapply (wp_load 𝒱₀ (c : Thread nD τ) none Set.univ (m := (Memref.whole cc0_scratch1 : Memref sig .tc .vmem S16x128x4096 .i8)) (accF_set _).subset) $$ H0F
  iintro H0F
  have hpay2 : k0_pay2 (F := F) (wb m ρ c) = wb m ρ c := shapeCast_self _ _
  have hs2 (f : S1.Idx → Elt F .f32) (i) : (Memref.whole cc0_stg2_0 : Memref sig .tc .smem S1 .f32).view.readAt (Elt F)
      (Rect.unit (s := S1) ![0] S1.size inb_S1_S1_0).toLoadRect f i = f (fun a => ⟨0, by revert a; decide⟩) :=
    congrArg f (funext fun a => by match a with | ⟨0, _⟩ => exact Subsingleton.elim (α := Fin 1) _ _)
  have hs3 (f : S1.Idx → Elt F .f32) (i) : (Memref.whole cc0_stg3_0 : Memref sig .tc .smem S1 .f32).view.readAt (Elt F)
      (Rect.unit (s := S1) ![0] S1.size inb_S1_S1_0).toLoadRect f i = f (fun a => ⟨0, by revert a; decide⟩) :=
    congrArg f (funext fun a => by match a with | ⟨0, _⟩ => exact Subsingleton.elim (α := Fin 1) _ _)
  rw [hpay2, hs2, hs3, show k0_pay4 (F := F) (xb m ρ c) = k0_pay3 (xb m ρ c) from rfl, ← gs, wp_ret]
  imodintro
  iapply (hk _ _ _)
  unfold Mid Out Inp
  isplitr
  · isplitr; · iexact Hrec
    iexact Hlev
  isplitl [HO]; · iexists _; iexact HO
  isplitl [HhT HpT H0T]
  · iapply (dir_zero m ρ true c)
    isplitl [HhT]; · iexact HhT
    isplitl [HpT] <;> iassumption
  isplitl [HhF HpF H0F]
  · isplitl [HhF]; · iexact HhF
    isplitl [HpF]; · iexact HpF
    unfold slotAny
    iexists f1; iexact H0F
  isplitl [Hx Hw Ha Hb Hat]
  · isplitl [Hx Hw Ha Hb]
    · isplitl [Hx]; · iexact Hx
      isplitl [Hw]; · iexact Hw
      isplitl [Ha] <;> iassumption
    iexact Hat
  iexists f
  isplitr
  · ipureintro
    rintro i (⟨h, h1, -⟩ | ⟨h, h1, h2, -⟩) <;> omega
  iexact Hout

/-- The second part: the own block stored for the other direction, the first hop of each, the own chunk computed. -/
theorem part2 (v2 v4 v6 : BitVec 32) {Q : (Σ' (_ : FVec F S128x64 .f32), BitVec 32) → sProp 𝕄}
    (hk : ∀ v w, v = chunkAt m ρ c (src true c 0) → St m ρ K c 1 0 0 1 0 0 0 0 ⊢ Q ⟨v, w⟩) :
    Mid m ρ K c ⊢ Wp c (on (k0_part2 (F := F)) c v2 v4 v6 (gs m ρ c) (wb m ρ c) (k0_pay3 (xb m ρ c))) Q := by
  rw [k0_part2_eq_skeleton]; unfold on k0_part2_skel
  simp only [Prog.lift, Prog.bind_op, Prog.bind_ret, Prog.pure_eq_ret]
  unfold Mid
  iintro ⟨Hrec, HO, HT, ⟨HhF, HpF, H0F⟩, HI, Hout⟩
  unfold slotAny
  icases H0F with ⟨%f1, H0F⟩
  iapply (wp_store 𝒱₀ (c : Thread nD τ) none Set.univ (m := (Memref.whole cc0_scratch1 : Memref sig .tc .vmem S16x128x4096 .i8))
    (r := rectF inb_S16x128x4096_S1x128x4096_0_0_0) (Mk := Finset.univ) (stF_set _).subset) $$ H0F
  iintro H0F
  ihave H0F := (Entails.of_eq (slotF_write inb_S16x128x4096_S1x128x4096_0_0_0 c (xb m ρ c) (k0_pay3 (xb m ρ c)) (pay_own _) f1)) $$ H0F
  iapply (show St m ρ K c 0 0 0 0 0 0 0 0 ⊢ _ from ?_)
  rotate_left
  · unfold St
    isplitl [Hrec]; · iexact Hrec
    isplitl [HO]; · iexact HO
    isplitl [HT]; · iexact HT
    isplitl [HhF HpF H0F]
    · iapply (dir_zero m ρ false c)
      isplitl [HhF]; · iexact HhF
      isplitl [HpF] <;> iassumption
    isplitl [HI] <;> iassumption
  refine startT m ρ K (dev_T (k0_dev3_eq c)) ?_
  refine startF m ρ K (dev_F (k0_dev4_eq c)) ?_
  refine loadX m ρ K ?_
  refine done_ret (hk _ _ ?_)
  unfold k0_pay5
  rw [shapeCast_self, src_zero]
  rfl

end Cert.KernelIdeal.Gather

end
-- ==== Proof.Ideal.Body.lean ====
/-
# The whole body

The parts in order, from the start of a device's kernel to its end: the slots make up their buffers again, every
semaphore is back at zero, nothing is owed, and the result buffer holds the finished result.
-/
module

public import proofs.«01_k».proof.Proof.Ideal.Preamble

@[expose] public section

set_option maxRecDepth 16384

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 63 → ℕ)

/-! ## Ranges -/

theorem seg (a n : ℕ) (Φ : ℕ → sProp 𝕄) : bigSep (Finset.Ico a (a + n)) Φ = bigSep (Finset.Ico 0 n) fun h => Φ (a + h) := by
  rw [show Finset.Ico a (a + n) = (Finset.Ico 0 n).map (addLeftEmbedding a) from (Finset.map_add_left_Ico 0 n a).symm, bigSep_map]
  rfl
theorem ico_cut {a b c : ℕ} (h1 : a ≤ b) (h2 : b ≤ c) (Φ : ℕ → sProp 𝕄) :
    bigSep (Finset.Ico a c) Φ = iprop(bigSep (Finset.Ico a b) Φ ∗ bigSep (Finset.Ico b c) Φ) := by
  rw [← Finset.Ico_union_Ico_eq_Ico h1 h2, bigSep_union (Finset.Ico_disjoint_Ico_consecutive a b c)]
  rfl
theorem fin_ico (n : ℕ) (Φ : ℕ → sProp 𝕄) : bigSep (Finset.univ : Finset (Fin n)) (fun k => Φ k.val) = bigSep (Finset.Ico 0 n) Φ := by
  have e : Finset.Ico 0 n = (Finset.univ : Finset (Fin n)).map Fin.valEmbedding := by
    ext i
    rw [Finset.mem_Ico, Finset.mem_map]
    exact ⟨fun h => ⟨⟨i, h.2⟩, Finset.mem_univ _, rfl⟩, fun ⟨j, _, hj⟩ => hj ▸ ⟨Nat.zero_le _, j.isLt⟩⟩
  rw [e, bigSep_map]; rfl

/-- The sixty-two semaphores by direction and use. -/
theorem cells_eq (Φ : ℕ → sProp 𝕄) : bigSep (Finset.univ : Finset (Fin 62)) (fun k => Φ (5 + k.val))
    = iprop(((bigSep (Finset.Ico 0 (hops true)) fun h => Φ (snd true h)) ∗ bigSep (Finset.Ico 0 (hops true)) fun h => Φ (rcv true h))
      ∗ (bigSep (Finset.Ico 0 (hops false)) fun h => Φ (snd false h)) ∗ bigSep (Finset.Ico 0 (hops false)) fun h => Φ (rcv false h)) := by
  rw [fin_ico 62 (fun k => Φ (5 + k)), ← seg 5 62 Φ, ico_cut (show 5 ≤ 37 by decide) (show 37 ≤ 5 + 62 by decide),
    ico_cut (show 5 ≤ 21 by decide) (show 21 ≤ 37 by decide), ico_cut (show 37 ≤ 52 by decide) (show 52 ≤ 5 + 62 by decide),
    show 37 = 21 + 16 from rfl, seg 21 16, show 21 = 5 + 16 from rfl, seg 5 16, show 5 + 62 = 52 + 15 from rfl, seg 52 15,
    show 52 = 5 + 16 + 16 + 15 from rfl, seg (5 + 16 + 16) 15]
  rfl

/-! ## Slots and buffers -/

theorem cover_T (c : Dev nD) : (Finset.Ico 0 (hops true + 1)).biUnion (setT : ℕ → Finset (Idx ((c : Thread nD τ).loc cc0_scratch0))) = Finset.univ :=
  Finset.eq_univ_iff_forall.mpr fun i => Finset.mem_biUnion.mpr
    ⟨(i 0).val, Finset.mem_Ico.mpr ⟨Nat.zero_le _, (i 0).isLt⟩, Finset.mem_filter.mpr ⟨Finset.mem_univ _, rfl⟩⟩
theorem cover_F (c : Dev nD) : (Finset.Ico 0 (hops false + 1)).biUnion (setF : ℕ → Finset (Idx ((c : Thread nD τ).loc cc0_scratch1))) = Finset.univ :=
  Finset.eq_univ_iff_forall.mpr fun i => Finset.mem_biUnion.mpr
    ⟨(i 0).val, Finset.mem_Ico.mpr ⟨Nat.zero_le _, (i 0).isLt⟩, Finset.mem_filter.mpr ⟨Finset.mem_univ _, rfl⟩⟩
theorem apart_T (S : Finset ℕ) : ∀ t ∈ S, ∀ t' ∈ S, t ≠ t' → Disjoint (setT t) (setT t') := fun t _ t' _ h =>
  Finset.disjoint_left.mpr fun i h1 h2 => h ((Finset.mem_filter.mp h1).2.symm.trans (Finset.mem_filter.mp h2).2)
theorem apart_F (S : Finset ℕ) : ∀ t ∈ S, ∀ t' ∈ S, t ≠ t' → Disjoint (setF t) (setF t') := fun t _ t' _ h =>
  Finset.disjoint_left.mpr fun i h1 h2 => h ((Finset.mem_filter.mp h1).2.symm.trans (Finset.mem_filter.mp h2).2)

/-- A direction's whole buffer, holding anything. -/
def Whole (b : Bool) (c : Dev nD) : sProp 𝕄 :=
  match b with
  | true => iprop(∃ f, ((c : Thread nD τ).loc cc0_scratch0) ↦{fullShare} f)
  | false => iprop(∃ f, ((c : Thread nD τ).loc cc0_scratch1) ↦{fullShare} f)

theorem slots_open (b : Bool) (c : Dev nD) : Whole (F := F) b c ⊢ bigSep (Finset.Ico 0 (hops b + 1)) (slotAny b c) := by
  cases b
  · unfold Whole
    iintro ⟨%f, H⟩
    have e : (((c : Thread nD τ).loc cc0_scratch1) ↦{fullShare} f : sProp 𝕄) = bigSep (Finset.Ico 0 (hops false + 1)) fun s => ((c : Thread nD τ).loc cc0_scratch1) ↦[setF s]{fullShare} f := by
      rw [← pointsTo_biUnion (ℓ := ((c : Thread nD τ).loc cc0_scratch1)) _ setF (apart_F _), cover_F c]
    have h2 : (bigSep (Finset.Ico 0 (hops false + 1)) fun s => ((c : Thread nD τ).loc cc0_scratch1) ↦[setF s]{fullShare} f : sProp 𝕄) ⊢ bigSep (Finset.Ico 0 (hops false + 1)) (slotAny false c) :=
      bigSep_mono fun s _ => exists_intro (Φ := fun f => (((c : Thread nD τ).loc cc0_scratch1) ↦[setF s]{fullShare} f : sProp 𝕄)) f
    iapply h2
    iapply (Entails.of_eq e)
    iexact H
  · unfold Whole
    iintro ⟨%f, H⟩
    have e : (((c : Thread nD τ).loc cc0_scratch0) ↦{fullShare} f : sProp 𝕄) = bigSep (Finset.Ico 0 (hops true + 1)) fun s => ((c : Thread nD τ).loc cc0_scratch0) ↦[setT s]{fullShare} f := by
      rw [← pointsTo_biUnion (ℓ := ((c : Thread nD τ).loc cc0_scratch0)) _ setT (apart_T _), cover_T c]
    have h2 : (bigSep (Finset.Ico 0 (hops true + 1)) fun s => ((c : Thread nD τ).loc cc0_scratch0) ↦[setT s]{fullShare} f : sProp 𝕄) ⊢ bigSep (Finset.Ico 0 (hops true + 1)) (slotAny true c) :=
      bigSep_mono fun s _ => exists_intro (Φ := fun f => (((c : Thread nD τ).loc cc0_scratch0) ↦[setT s]{fullShare} f : sProp 𝕄)) f
    iapply h2
    iapply (Entails.of_eq e)
    iexact H

theorem slots_close (b : Bool) (c : Dev nD) (X : ℕ → Blk F) :
    (bigSep (Finset.Ico 0 (hops b + 1)) fun s => slot b c s fullShare (X s)) ⊢ Whole b c := by
  cases b
  · unfold Whole slot
    refine (pointsTo_biUnion_join (ℓ := ((c : Thread nD τ).loc cc0_scratch1)) (q := fullShare) (Finset.Ico 0 (hops false + 1)) setF (fun s => repF (X s)) (repF (X 0)) (apart_F _)).trans ?_
    rw [cover_F c]
    iintro ⟨%g, -, H⟩
    iexists g; iexact H
  · unfold Whole slot
    refine (pointsTo_biUnion_join (ℓ := ((c : Thread nD τ).loc cc0_scratch0)) (q := fullShare) (Finset.Ico 0 (hops true + 1)) setT (fun s => repT (X s)) (repT (X 0)) (apart_T _)).trans ?_
    rw [cover_T c]
    iintro ⟨%g, -, H⟩
    iexists g; iexact H

/-! ## The end -/

/-- A semaphore that has been waited for is at zero, for all of a direction's. -/
theorem close_all (b : Bool) (c : Dev nD) (q : ℕ → ℕ) (hq : ∀ h, h < hops b → 5 ≤ q h ∧ q h < 67) :
    iprop(records m ρ K ∗ bigSep (Finset.Ico 0 (hops b)) fun h => atPos ER (cell c (q h)) (0 + 1) ∅ 0)
      ⊢ (|={Set.univ}=> bigSep (Finset.Ico 0 (hops b)) fun h => semVal (cell c (q h)) 0 : sProp 𝕄) := by
  refine (sep_mono_left (BI.bigSep_of_persistent (Finset.Ico 0 (hops b)) (records m ρ K))).trans ?_
  rw [← bigSep_sep']
  refine (bigSep_mono fun h hh => ?_).trans (bigSep_fupd _ _)
  obtain ⟨h5, h67⟩ := hq h (Finset.mem_Ico.mp hh).2
  show iprop(records m ρ K ∗ atPos ER (cell c (q h)) (0 + 1) ∅ 0) ⊢ _
  iintro ⟨#Hrec, Hat⟩
  ihave Hr := (rec_dma m ρ K c h5 h67) $$ Hrec
  icases Hr with ⟨#HI, -⟩
  iapply (Rounds.cell_close ER (Rd m ρ) (Set.mem_univ (K (c, kq (q h)))) (fun h => h) (R := 0 + 1) (duties_later m ρ (cell c (q h))))
  isplitr; · iexact HI
  iexact Hat

/-- What is left when the kernel is done. -/
def Post (c : Dev nD) : sProp 𝕄 :=
  iprop((Inp m ρ c ∗ (((c : Thread nD τ).loc cc0_stg4_0) ↦{fullShare} outAt m ρ c)) ∗ (∃ W, owes (c : Thread nD τ) 0 W)
    ∗ (Whole true c ∗ Whole false c) ∗ (bigSep (Finset.univ : Finset (Fin 62)) fun k => semVal (cell c (5 + k.val)) 0) ∗ semVal (bar c) 0)

theorem finish (c : Dev nD) : St m ρ K c 16 16 16 15 15 15 17 15 ⊢ (|={Set.univ}=> Post m ρ c : sProp 𝕄) := by
  have hT : Dir m ρ true c 16 16 16 ⊢ _ := dir_end m ρ true c
  have hF : Dir m ρ false c 15 15 15 ⊢ _ := dir_end m ρ false c
  unfold St Out
  iintro ⟨⟨#Hrec, -⟩, ⟨%W, HO⟩, HT, HF, ⟨HI, Hbar⟩, ⟨%f, %hf, Hout⟩⟩
  have hfe : f = outAt m ρ c := funext fun i => hf i (done_all c _)
  subst hfe
  ihave HT := hT $$ HT
  icases HT with ⟨HsT, HrT, HdT⟩
  ihave HF := hF $$ HF
  icases HF with ⟨HsF, HrF, HdF⟩
  ihave HsT := (slots_close true c _) $$ HsT
  ihave HsF := (slots_close false c _) $$ HsF
  imod (close_all m ρ K true c (rcv true) fun h hh => ⟨rcv_ge true h, rcv_lt hh⟩) $$ [HrT] with HrT
  · isplitr; · iexact Hrec
    iexact HrT
  imod (close_all m ρ K true c (snd true) fun h hh => ⟨snd_ge true h, snd_lt hh⟩) $$ [HdT] with HdT
  · isplitr; · iexact Hrec
    iexact HdT
  imod (close_all m ρ K false c (rcv false) fun h hh => ⟨rcv_ge false h, rcv_lt hh⟩) $$ [HrF] with HrF
  · isplitr; · iexact Hrec
    iexact HrF
  imod (close_all m ρ K false c (snd false) fun h hh => ⟨snd_ge false h, snd_lt hh⟩) $$ [HdF] with HdF
  · isplitr; · iexact Hrec
    iexact HdF
  ihave Hr := (rec_bar m ρ K c) $$ Hrec
  icases Hr with ⟨#HIb, -⟩
  imod (Rounds.cell_close ER (Rd m ρ) (Set.mem_univ (K (c, 62))) (fun h => h) (R := 0 + 1) (duties_later m ρ (bar c))) $$ [Hbar] with Hz
  · isplitr; · iexact HIb
    iexact Hbar
  imodintro
  unfold Post
  isplitl [HI Hout]
  · isplitl [HI] <;> iassumption
  isplitl [HO]
  · iexists W
    rw [owed_end (b := true) (show hops true ≤ 16 from le_rfl), owed_end (b := false) (show hops false ≤ 15 from le_rfl), add_zero]
    iexact HO
  isplitl [HsT HsF]
  · isplitl [HsT] <;> iassumption
  isplitr [Hz]
  · rw [cells_eq (fun q => semVal (cell c q) 0)]
    isplitl [HrT HdT]
    · isplitl [HdT] <;> iassumption
    isplitl [HdF] <;> iassumption
  iexact Hz

/-! ## The parts in order -/

section Compose

variable {α β : Type} {c : Dev nD} {P : sProp (MT nD τ sig Unit (Elt F) ℕ UU ℕ)} {Q : α → sProp (MT nD τ sig Unit (Elt F) ℕ UU ℕ)}

theorem next {p : Prog (TpuEff nD τ sig (Elt F) Λ₀ .tc) β} {k : β → Prog (TpuEff nD τ sig (Elt F) Λ₀ .tc) α}
    (h : P ⊢ Wp c p fun x => Wp c (k x) Q) : P ⊢ Wp c (p >>= k) Q := by
  show P ⊢ wp frame (wpE (defs₀ (F := F)) 𝒱₀ (c : Thread nD τ) none) Set.univ (p >>= k) Q
  rw [wp_bind]; exact h

theorem done_fupd {x : α} (h : P ⊢ (|={Set.univ}=> Q x)) : P ⊢ Wp c (.ret x) Q := by
  show P ⊢ wp frame (wpE (defs₀ (F := F)) 𝒱₀ (c : Thread nD τ) none) Set.univ (.ret x) Q
  rw [wp_ret]; exact h

end Compose

/-- The body, from its start to its end. -/
theorem sound_body (c : Dev nD) : Pre m ρ K c ⊢ Wp c (on (cc0_body (F := F))) fun _ => Post m ρ c := by
  rw [cc0_body_eq_skeleton]; unfold on cc0_body_skel
  refine next (part1 m ρ K fun v2 v4 v6 => ?_)
  refine next (part2 m ρ K v2 v4 v6 fun v w hv => ?_)
  refine next (part3 m ρ K v4 v6 w hv ?_)
  refine next (part4 m ρ K v2 v4 fun X w hX => ?_)
  refine next (part5 m ρ K v2 v6 w hX ?_)
  refine next (part6 m ρ K v2 v4 fun w v hv => ?_)
  refine next (part7 m ρ K v2 v6 w hv fun w => ?_)
  refine next (part8 m ρ K v4 v6 w ?_)
  refine next (part9 m ρ K v2 v6 ?_)
  refine next (part10 m ρ K v4 v6 fun w w' => ?_)
  refine next (part11 m ρ K v2 w w' ?_)
  refine next (part12 m ρ K v4 v6 ?_)
  refine next (part13 m ρ K v2 v4 fun X w w' hX => ?_)
  refine next (part14 m ρ K v6 w w' hX ?_)
  refine next (part15 m ρ K v2 v4 fun v w hv => ?_)
  refine next (part16 m ρ K v2 v6 w hv ?_)
  refine next (part17 m ρ K v4 fun v hv => ?_)
  refine next (part18 m ρ K v2 v6 hv ?_)
  refine next (part19 m ρ K v4 v6 ?_)
  refine next (part20 m ρ K v2 ?_)
  refine next (part21 m ρ K v4 v6 ?_)
  refine next (part22 m ρ K v2 v4 fun w v hv => ?_)
  refine next (part23 m ρ K v6 w hv ?_)
  refine next (part24 m ρ K v2 v4 ?_)
  refine next (part25 m ρ K v2 v6 ?_)
  refine next (part26 m ρ K v2 v4 fun X w w' hX => ?_)
  refine next (part27 m ρ K v2 v6 w w' hX ?_)
  refine next (part28 m ρ K v4 v6 ?_)
  refine next (part29 m ρ K v2 v6 fun w => ?_)
  refine next (part30 m ρ K v4 v6 w ?_)
  refine next (part31 m ρ K v2 v4 fun w v hv => ?_)
  refine next (part32 m ρ K v4 v6 w hv ?_)
  refine next (part33 m ρ K v2 v4 fun v hv => ?_)
  refine next (part34 m ρ K v2 v6 hv ?_)
  refine next (part35 m ρ K v2 v4 fun w v hv => ?_)
  refine next (part36 m ρ K v2 v6 w hv ?_)
  refine next (part37 m ρ K ?_)
  refine next (part38 m ρ K ?_)
  refine next (part39 m ρ K ?_)
  refine next (part40 m ρ K ?_)
  refine next (part41 m ρ K ?_)
  refine next (part42 m ρ K ?_)
  refine next (part43 m ρ K ?_)
  refine next (part44 m ρ K ?_)
  refine next (part45 m ρ K ?_)
  simp only [Prog.lift, Prog.bind_op, Prog.bind_ret, Prog.pure_eq_ret]
  refine sentF m ρ K ?_
  exact done_fupd (finish m ρ K c)

end Cert.KernelIdeal.Gather

end
-- ==== Proof.Ideal.Deal.lean ====
/-
# What every device is dealt at launch

Each cell's round, position and duty tokens are made in one step for the whole mesh. The invariants of all cells are
then allocated, and each device receives the tokens of the duties it pays: for a hop, the token of its own send cell and
of its neighbour's receive cell; for the barrier, one token of each neighbour's.
-/
module

public import proofs.«01_k».proof.Proof.Ideal.Body

@[expose] public section

set_option maxRecDepth 16384

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The kernel's own DMA semaphores. -/
def osem (k : Fin 62) : SemLoc sig := .dma (dsem (5 + k.val))

theorem csem_inj {j k : Fin 63} (h : csem j = csem k) : j = k := by
  unfold csem at h
  have hj := j.isLt
  have hk := k.isLt
  by_cases h1 : j.val < 62 <;> by_cases h2 : k.val < 62
  · rw [if_pos h1, if_pos h2] at h
    have := dsem_inj (by omega) (by omega) (SemLoc.dma.inj h)
    exact Fin.ext (by omega)
  · rw [if_pos h1, if_neg h2] at h; cases h
  · rw [if_neg h1, if_pos h2] at h; cases h
  · exact Fin.ext (by omega)

theorem kcell_inj : Function.Injective kcell := by
  rintro ⟨c, j⟩ ⟨d, k⟩ h
  have h1 : c = d := congrArg (fun g : GSem nD τ sig => g.1.1) h
  have h2 : j = k := csem_inj (congrArg Prod.snd h)
  rw [h1, h2]

/-- All cells of the mesh that the body uses. -/
def allCells : Finset (GSem nD τ sig) := Finset.univ.map ⟨kcell, kcell_inj⟩

/-- The first duty of every cell, -/
def firstToks : Finset (GSem nD τ sig × ℕ × Bool) :=
  Finset.univ.map ⟨fun ck => (kcell ck, 0, false), fun _ _ h => kcell_inj (congrArg Prod.fst h)⟩
/-- and the second duty of every barrier. -/
def secondToks : Finset (GSem nD τ sig × ℕ × Bool) :=
  Finset.univ.map ⟨fun c : Dev nD => (bar c, 0, true), fun _ _ h => congrArg (fun x : GSem nD τ sig × ℕ × Bool => x.1.1.1) h⟩

theorem toks_apart : Disjoint firstToks secondToks := by
  rw [Finset.disjoint_left]
  intro x h1 h2
  obtain ⟨a, -, rfl⟩ := Finset.mem_map.mp h1
  obtain ⟨b, -, h⟩ := Finset.mem_map.mp h2
  exact Bool.noConfusion (congrArg (fun x : GSem nD τ sig × ℕ × Bool => x.2.2) h)

def allToks : Finset (GSem nD τ sig × ℕ × Bool) := firstToks ∪ secondToks

/-- The launch element: the pipeline's and the cells'. -/
def u₀ : UU :=
  (initOf (Pipeline.cells cfgs cellOf_inj) (Pipeline.launchToks cfgs cellOf_inj), initOf allCells allToks)

/-- A device's cells: the sixty-two DMA cells and the barrier. -/
theorem cells_split (Φ : SemLoc sig → sProp 𝕄) : bigSep (Finset.univ : Finset (Fin 63)) (fun k => Φ (csem k))
    = iprop(bigSep (Finset.univ : Finset (Fin 62)) (fun k => Φ (.dma (dsem (5 + k.val)))) ∗ Φ (.reg barS)) := by
  have h1 : bigSep (Finset.univ : Finset (Fin 63)) (fun k => Φ (csem k))
      = bigSep (Finset.Ico 0 63) fun n => Φ (if n < 62 then .dma (dsem (5 + n)) else .reg barS) :=
    fin_ico 63 fun n => Φ (if n < 62 then .dma (dsem (5 + n)) else .reg barS)
  have h2 : bigSep (Finset.Ico 0 62) (fun n => Φ (if n < 62 then .dma (dsem (5 + n)) else .reg barS))
      = bigSep (Finset.Ico 0 62) fun n => Φ (.dma (dsem (5 + n))) :=
    bigSep_congr fun n hn => by rw [if_pos (Finset.mem_Ico.mp hn).2]
  rw [h1, ico_top (Nat.zero_le 62), h2, fin_ico 62 fun n => Φ (.dma (dsem (5 + n))), if_neg (Nat.lt_irrefl 62)]
  exact Entails.antisymm sep_comm sep_comm

/-! ## Tokens -/

/-- The tokens of a direction's send cells, and of its receive cells. -/
def sndTok (b : Bool) (c : Dev nD) : sProp 𝕄 := bigSep (Finset.Ico 0 (hops b)) fun h => dutyTok ER (cell c (snd b h)) 0 false
def rcvTok (b : Bool) (c : Dev nD) : sProp 𝕄 := bigSep (Finset.Ico 0 (hops b)) fun h => dutyTok ER (cell c (rcv b h)) 0 false

/-- The tokens of device `c`'s own cells. -/
def toks (c : Dev nD) : sProp 𝕄 :=
  iprop((bigSep (Finset.univ : Finset (Fin 63)) fun k => dutyTok ER (kcell (c, k)) 0 false) ∗ dutyTok ER (bar c) 0 true)

/-- The tokens of the duties device `c` pays. -/
def payToks (c : Dev nD) : sProp 𝕄 :=
  iprop((dutyTok ER (bar (nb false c)) 0 true ∗ dutyTok ER (bar (nb true c)) 0 false)
    ∗ bigSep (Finset.Ico 0 (hops true)) (pay true c) ∗ bigSep (Finset.Ico 0 (hops false)) (pay false c))

theorem toks_eq (c : Dev nD) : toks (F := F) c
    = iprop((((sndTok true c ∗ rcvTok true c) ∗ sndTok false c ∗ rcvTok false c) ∗ dutyTok ER (bar c) 0 false) ∗ dutyTok ER (bar c) 0 true) := by
  unfold toks
  have h1 : (bigSep (Finset.univ : Finset (Fin 63)) fun k => (dutyTok ER (kcell (c, k)) 0 false : sProp 𝕄))
      = iprop(bigSep (Finset.univ : Finset (Fin 62)) (fun k => dutyTok ER (cell c (5 + k.val)) 0 false) ∗ dutyTok ER (bar c) 0 false) :=
    cells_split fun sm => dutyTok ER ((c : Thread nD τ), sm) 0 false
  rw [h1, cells_eq fun q => (dutyTok ER (cell c q) 0 false : sProp 𝕄)]
  rfl

theorem pays_eq (b : Bool) (c : Dev nD) : bigSep (Finset.Ico 0 (hops b)) (pay (F := F) b c)
    = iprop(rcvTok b (step b c) ∗ sndTok b c) := by
  unfold pay rcvTok sndTok
  rw [bigSep_sep']; rfl

theorem payToks_eq (c : Dev nD) : payToks (F := F) c
    = iprop((dutyTok ER (bar (step false c)) 0 true ∗ dutyTok ER (bar (step true c)) 0 false)
      ∗ (rcvTok true (step true c) ∗ sndTok true c) ∗ rcvTok false (step false c) ∗ sndTok false c) := by
  unfold payToks
  rw [pays_eq, pays_eq]; rfl

/-- Every token goes to the device that pays its duty. -/
theorem toks_around : (bigSep Finset.univ fun c : Dev nD => toks (F := F) c) ⊢ bigSep Finset.univ fun c : Dev nD => payToks (F := F) c := by
  rw [bigSep_congr (fun c _ => toks_eq (F := F) c), bigSep_congr (fun c _ => payToks_eq (F := F) c)]
  simp only [bigSep_sep']
  rw [bigSep_univ_equiv (step false) (fun c : Dev nD => (dutyTok ER (bar c) 0 true : sProp 𝕄)),
    bigSep_univ_equiv (step true) (fun c : Dev nD => (dutyTok ER (bar c) 0 false : sProp 𝕄)),
    bigSep_univ_equiv (step true) (fun c : Dev nD => rcvTok (F := F) true c),
    bigSep_univ_equiv (step false) (fun c : Dev nD => rcvTok (F := F) false c)]
  iintro ⟨⟨⟨⟨S1, R1⟩, S2, R2⟩, B1⟩, B2⟩
  isplitl [B1 B2]
  · isplitl [B2] <;> iassumption
  isplitl [S1 R1]
  · isplitl [R1] <;> iassumption
  isplitl [R2] <;> iassumption

/-! ## The deal -/

/-- What the launch element gives device `c`, -/
def G (c : Dev nD) : sProp 𝕄 :=
  iprop((bigSep Finset.univ fun k : Fin 63 => roundState ER (Rd m ρ) (kcell (c, k)) 0)
    ∗ ((bigSep Finset.univ fun k : Fin 63 => atPos ER (kcell (c, k)) 0 ∅ 0) ∗ bigSep Finset.univ fun k : Fin 63 => reached ER (kcell (c, k)) 0)
    ∗ toks c)

/-- the positions of its cells, -/
def posns (c : Dev nD) : sProp 𝕄 := bigSep Finset.univ fun k : Fin 63 => atPos ER (kcell (c, k)) 0 ∅ 0

/-- and what it starts from. -/
def ghost (K : Dev nD × Fin 63 → ℕ) (c : Dev nD) : sProp 𝕄 := iprop(records m ρ K ∗ posns c ∗ payToks c)
def G' (c : Dev nD) : sProp 𝕄 := iprop(∃ K, ghost m ρ K c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 63 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks
    rw [bigSep_union toks_apart, bigSep_sep']
    unfold firstToks secondToks
    rw [bigSep_map, bigSep_map, bigSep_univ_prod]
    rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (bar c) 0 := by
  unfold unscopedSems0; rw [bigSep_eq_bigSepL_of_eq [SemLoc.reg barS] (by decide) (by decide)]; rfl

/-- A device's semaphores, all at zero. -/
theorem sems_eq (c : Dev nD) : (bigSep Finset.univ fun k : Fin 63 => (semVal (kcell (c, k)) 0 : sProp 𝕄))
    = iprop(Pipeline.ownSems0 (Ix := Unit) (Name := ℕ) (U := UU) (Lvl := ℕ) (Val := Elt F) (τ := τ) osem c ∗ unscopedSems0 c) := by
  rw [unscopedSems0_eq]
  exact cells_split fun sm => semVal ((c : Thread nD τ), sm) 0

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 63 => iprop(∃ κ : ℕ, cellInv ER (Rd m ρ) κ (kcell (c, k))))
          ∗ (posns c ∗ bigSep Finset.univ fun k : Fin 63 => reached ER (kcell (c, k)) 0) ∗ toks c) := by
  unfold G posns
  iintro ⟨Hos, Hus, Hst, Hat, Htok⟩
  ihave Hv := (Entails.of_eq (sems_eq (F := F) c).symm) $$ [Hos Hus]
  · isplitl [Hos] <;> iassumption
  imod (show iprop((bigSep Finset.univ fun k : Fin 63 => semVal (kcell (c, k)) 0) ∗ bigSep Finset.univ fun k : Fin 63 => roundState ER (Rd m ρ) (kcell (c, k)) 0)
      ⊢ (|={Set.univ}=> bigSep Finset.univ fun k : Fin 63 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : Fin 63 => iprop(∃ κ : ℕ, cellInv ER (Rd m ρ) κ (kcell (c, k))))
          ∗ (posns c ∗ bigSep Finset.univ fun k : Fin 63 => reached ER (kcell (c, k)) 0) ∗ toks c) : sProp 𝕄)
      ⊢ bigSep Finset.univ (G' m ρ) := by
  rw [bigSep_sep', bigSep_sep', bigSep_sep', ← bigSep_univ_prod (fun ck : Dev nD × Fin 63 => iprop(∃ κ : ℕ, cellInv ER (Rd m ρ) κ (kcell ck))),
    ← bigSep_univ_prod (fun ck : Dev nD × Fin 63 => (reached ER (kcell ck) 0 : sProp 𝕄))]
  iintro ⟨HI, ⟨Hat, #HR⟩, Htok⟩
  ihave HK := (BI.bigSep_exists_pi Finset.univ (fun (ck : Dev nD × Fin 63) (κ : ℕ) => (cellInv ER (Rd m ρ) κ (kcell ck) : sProp 𝕄))) $$ HI
  icases HK with ⟨%K, #HI⟩
  ihave Htk := (toks_around (F := F)) $$ Htok
  have h1 : iprop(records m ρ K ∗ bigSep Finset.univ fun c : Dev nD => iprop(posns c ∗ payToks c)) ⊢ bigSep Finset.univ (G' m ρ) := by
    refine (sep_mono_left (BI.bigSep_of_persistent (Finset.univ : Finset (Dev nD)) (records m ρ K))).trans ?_
    rw [← bigSep_sep']
    exact bigSep_mono fun c _ => exists_intro (Φ := fun K => ghost m ρ K c) K
  iapply h1
  isplitr
  · unfold records; isplitl; · iexact HI
    iexact HR
  · iapply (Entails.of_eq (bigSep_sep' Finset.univ (fun c : Dev nD => posns (F := F) c) payToks).symm)
    isplitl [Hat]; · iexact Hat
    iexact Htk

/-- The step made for the whole mesh at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The credit of a direction's receive cells. -/
def rcvCred (b : Bool) (c : Dev nD) : sProp 𝕄 := bigSep (Finset.Ico 0 (hops b)) fun h => cred (tallyAt (cell c (rcv b h)) () N)

theorem owed_cred (b : Bool) (c : Dev nD) : (Pipeline.launchCred (fun d => owed b d 0) c : sProp 𝕄) ⊢ rcvCred b c := by
  have e : (Pipeline.launchCred (fun d => owed b d 0) c : sProp 𝕄)
      = bigSep (Finset.Ico 0 (hops b)) fun p => Pipeline.launchCred (fun d => tallyAt (cell (nb b d) (rcv b p)) () N) c :=
    Pipeline.launchCred_sum (Finset.Ico 0 (hops b)) (fun p d => tallyAt (cell (nb b d) (rcv b p)) () N) c
  rw [e]
  exact bigSep_mono fun p _ => Pipeline.launchCred_tallyAt (.dma (dsem (rcv b p))) (nb b) (nb (!b)) (nb_nb b) (nb_nb' b) () N c

theorem bar_cred (b : Bool) (c : Dev nD) : (Pipeline.launchCred (fun d => tallyAt (bar (nb b d)) () 1) c : sProp 𝕄) ⊢ cred (tallyAt (bar c) () 1) :=
  Pipeline.launchCred_tallyAt (.reg barS) (nb b) (nb (!b)) (nb_nb b) (nb_nb' b) () 1 c

theorem creds (c : Dev nD) :
    (Pipeline.launchCred O₀ c : sProp 𝕄) ⊢ iprop((rcvCred true c ∗ rcvCred false c) ∗ cred (tallyAt (bar c) () 2)) := by
  have e1 : (Pipeline.launchCred O₀ c : sProp 𝕄) = iprop(Pipeline.launchCred O₁ c ∗ Pipeline.launchCred (fun d => tallyAt (bar (nb false d)) () 1) c) :=
    Pipeline.launchCred_add O₁ (fun d => tallyAt (bar (nb false d)) () 1) c
  have e2 : (Pipeline.launchCred O₁ c : sProp 𝕄) = iprop(Pipeline.launchCred (fun d => owed true d 0 + owed false d 0) c ∗ Pipeline.launchCred (fun d => tallyAt (bar (nb true d)) () 1) c) :=
    Pipeline.launchCred_add (fun d => owed true d 0 + owed false d 0) (fun d => tallyAt (bar (nb true d)) () 1) c
  have e3 : (Pipeline.launchCred (fun d => owed true d 0 + owed false d 0) c : sProp 𝕄) = iprop(Pipeline.launchCred (fun d => owed true d 0) c ∗ Pipeline.launchCred (fun d => owed false d 0) c) :=
    Pipeline.launchCred_add (fun d => owed true d 0) (fun d => owed false d 0) c
  have e4 : iprop(cred (tallyAt (bar c) () 1) ∗ cred (tallyAt (bar c) () 1)) ⊢ (cred (tallyAt (bar c) () 2) : sProp 𝕄) := by
    refine (cred_add _ _).2.trans (Entails.of_eq ?_)
    rw [tallyAt_add]
  rw [e1, e2, e3]
  iintro ⟨⟨⟨H1, H2⟩, H3⟩, H4⟩
  isplitl [H1 H2]
  · isplitl [H1]
    · iapply (owed_cred (F := F) true c); iexact H1
    · iapply (owed_cred (F := F) false c); iexact H2
  · iapply e4
    isplitl [H3]
    · iapply (bar_cred (F := F) true c); iexact H3
    · iapply (bar_cred (F := F) false c); iexact H4

end Cert.KernelIdeal.Gather

end
-- ==== Proof.Ideal.Launch.lean ====
/-
# The run

The pipeline's proof data for the kernel's one point, the body's obligation from the whole body, and the run of
@main on all devices: every execution ends, each device's result holds the finished result, its arguments are as
they were, and every semaphore is at zero.
-/
module

public import proofs.«01_k».proof.Proof.Ideal.Deal
public import Idealize.ShloMosaic.Lib.Pipeline.CollectiveSegs
public import Idealize.ShloMosaic.Lib.Quiescent

@[expose] public section

set_option maxRecDepth 16384

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What a device starts its kernel from, -/
def start (c : Dev nD) : sProp 𝕄 := iprop(G' m ρ c ∗ ((rcvCred true c ∗ rcvCred false c) ∗ cred (tallyAt (bar c) () 2)) ∗ levAts L lv)
/-- with the two buffers of slots; -/
def Φ₀ (c : Dev nD) : sProp 𝕄 := iprop(start m ρ c ∗ Whole true c ∗ Whole false c)
/-- and what it ends with. -/
def Φ₁ (c : Dev nD) : sProp 𝕄 :=
  iprop((Whole true c ∗ Whole false c) ∗ (bigSep (Finset.univ : Finset (Fin 62)) fun k => semVal (cell c (5 + k.val)) 0) ∗ semVal (bar c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xb m ρ c
    | ⟨1, _⟩ => wb m ρ c
    | ⟨2, _⟩ => sa m ρ c
    | ⟨3, _⟩ => sb m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer that holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (xb m ρ c) ∗ stg c cc0_stg1_0 (wb m ρ c)
    ∗ stg c cc0_stg2_0 (sa m ρ c) ∗ stg c cc0_stg3_0 (sb m ρ c) ∗ stg c cc0_stg4_0 (outAt m ρ c))

theorem before_x (c : Dev nD) (d) : (dats m ρ 0 c).before (0 : Fin 5) t0_0 d = xb m ρ c := by
  unfold Dat.before; rw [if_pos (fetch0_0 t0_0)]; rfl
theorem before_w (c : Dev nD) (d) : (dats m ρ 0 c).before (1 : Fin 5) t0_0 d = wb m ρ c := by
  unfold Dat.before; rw [if_pos (fetch0_1 t0_0)]; rfl
theorem before_a (c : Dev nD) (d) : (dats m ρ 0 c).before (2 : Fin 5) t0_0 d = sa m ρ c := by
  unfold Dat.before; rw [if_pos (fetch0_2 t0_0)]; rfl
theorem before_b (c : Dev nD) (d) : (dats m ρ 0 c).before (3 : Fin 5) t0_0 d = sb m ρ c := by
  unfold Dat.before; rw [if_pos (fetch0_3 t0_0)]; rfl

/-- A direction's duties, credits and positions, from the deal's. -/
theorem half_intro (b : Bool) (c : Dev nD) :
    iprop(bigSep (Finset.Ico 0 (hops b)) (pay (F := F) b c) ∗ rcvCred b c
      ∗ (bigSep (Finset.Ico 0 (hops b)) fun h => atPos ER (cell c (snd b h)) 0 ∅ 0) ∗ bigSep (Finset.Ico 0 (hops b)) fun h => atPos ER (cell c (rcv b h)) 0 ∅ 0)
      ⊢ Half b c := by
  have e : bigSep (Finset.Ico 0 (hops b)) (arr (F := F) b c)
      = iprop(rcvCred b c ∗ bigSep (Finset.Ico 0 (hops b)) fun h => atPos ER (cell c (rcv b h)) 0 ∅ 0) := by
    unfold arr rcvCred; rw [bigSep_sep']
  unfold Half
  rw [e]
  unfold spos
  iintro ⟨H1, H2, H3, H4⟩
  isplitl [H1]; · iexact H1
  isplitl [H2 H4]
  · isplitl [H2] <;> iassumption
  iexact H3

theorem posns_eq (c : Dev nD) : posns (F := F) c
    = iprop((((bigSep (Finset.Ico 0 (hops true)) fun h => atPos ER (cell c (snd true h)) 0 ∅ 0) ∗ bigSep (Finset.Ico 0 (hops true)) fun h => atPos ER (cell c (rcv true h)) 0 ∅ 0)
      ∗ (bigSep (Finset.Ico 0 (hops false)) fun h => atPos ER (cell c (snd false h)) 0 ∅ 0) ∗ bigSep (Finset.Ico 0 (hops false)) fun h => atPos ER (cell c (rcv false h)) 0 ∅ 0)
      ∗ atPos ER (bar c) 0 ∅ 0) := by
  have h1 : posns (F := F) c = iprop(bigSep (Finset.univ : Finset (Fin 62)) (fun k => atPos ER (cell c (5 + k.val)) 0 ∅ 0) ∗ atPos ER (bar c) 0 ∅ 0) :=
    cells_split fun sm => atPos ER ((c : Thread nD τ), sm) 0 ∅ 0
  rw [h1, cells_eq fun q => (atPos ER (cell c q) 0 ∅ 0 : sProp 𝕄)]

theorem slots_first (b : Bool) (c : Dev nD) :
    Whole (F := F) b c ⊢ iprop(slotAny b c 0 ∗ bigSep (Finset.Ico 1 (hops b + 1)) fun s => slotAny b c s) :=
  (slots_open b c).trans (Entails.of_eq (ico_bot (Nat.succ_pos (hops b)) (slotAny b c)))

/-- The body's precondition, put in the shape the whole body takes. -/
theorem pre_intro (c : Dev nD) : bodyPre m ρ c ⊢ iprop(∃ K, Pre m ρ K c) := by
  unfold bodyPre Φ₀ start G' ghost payToks Dat.owesAt Pipeline.owesWithin
  simp only [before_x, before_w, before_a, before_b, posns_eq]
  rw [show (dats m ρ 0 c).owed t0_0.castSucc = O₀ c from rfl]
  iintro ⟨⟨⟨⟨%K, Hrec, ⟨⟨⟨ST, RT⟩, SF, RF⟩, HaB⟩, HB, HpT, HpF⟩, ⟨⟨HcT, HcF⟩, HcB⟩, Hlev⟩, HwT, HwF⟩,
    ⟨%W, %hW, HO⟩, ⟨%d0, %g0, %e0, H0⟩, ⟨%d1, %g1, %e1, H1⟩, ⟨%d2, %g2, %e2, H2⟩, ⟨%d3, %g3, %e3, H3⟩, ⟨%d4, %g4, %e4, H4⟩⟩
  subst e0 e1 e2 e3
  iexists K
  unfold Pre Inp
  isplitl [Hrec Hlev]
  · isplitl [Hrec] <;> iassumption
  isplitl [HO]
  · iexists W; iexact HO
  isplitl [HB]; · iexact HB
  isplitl [HcB HaB]
  · isplitl [HcB] <;> iassumption
  isplitl [ST RT HpT HcT HwT]
  · isplitl [ST RT HpT HcT]
    · iapply (half_intro (F := F) true c)
      isplitl [HpT]; · iexact HpT
      isplitl [HcT]; · iexact HcT
      isplitl [ST] <;> iassumption
    · iapply (slots_first (F := F) true c); iexact HwT
  isplitl [SF RF HpF HcF HwF]
  · isplitl [SF RF HpF HcF]
    · iapply (half_intro (F := F) false c)
      isplitl [HpF]; · iexact HpF
      isplitl [HcF]; · iexact HcF
      isplitl [SF] <;> iassumption
    · iapply (slots_first (F := F) false c); iexact HwF
  isplitl [H0 H1 H2 H3]
  · isplitl [H0]; · iexact H0
    isplitl [H1]; · iexact H1
    isplitl [H2] <;> iassumption
  · iexists g4; iexact H4

theorem stg_intro (c : Dev nD) (b : Ref sig .tc) (X : Buf (Elt F) (((c : Dev nD) : Thread nD τ).loc b)) :
    (((c : Thread nD τ).loc b) ↦{fullShare} X : sProp 𝕄) ⊢ stg c b X := by
  iintro H
  iexists X
  isplitr
  · ipureintro; rfl
  · iexact H

/-- What the whole body ends with is the body's postcondition. -/
theorem post_elim (c : Dev nD) : Post m ρ c ⊢ bodyPost m ρ c := by
  unfold Post bodyPost Φ₁ Inp Dat.owesAt Pipeline.owesWithin
  rw [show (dats m ρ 0 c).owed t0_0.succ = 0 from rfl]
  iintro ⟨⟨⟨H0, H1, H2, H3⟩, H4⟩, ⟨%W, HO⟩, HW, Hs, HB⟩
  isplitl [HW Hs HB]
  · isplitl [HW]; · iexact HW
    isplitl [Hs] <;> iassumption
  isplitl [HO]
  · iexists W
    isplitr
    · ipureintro; exact fun _ _ => Or.inl trivial
    · iexact HO
  isplitl [H0]; · iapply (stg_intro (F := F) c cc0_stg0_0); iexact H0
  isplitl [H1]; · iapply (stg_intro (F := F) c cc0_stg1_0); iexact H1
  isplitl [H2]; · iapply (stg_intro (F := F) c cc0_stg2_0); iexact H2
  isplitl [H3]; · iapply (stg_intro (F := F) c cc0_stg3_0); iexact H3
  iapply (stg_intro (F := F) c cc0_stg4_0); iexact H4

theorem body_run (c : Dev nD) : bodyPre m ρ c ⊢ Wp c (on (cc0_body (F := F))) fun _ => bodyPost m ρ c := by
  refine (pre_intro m ρ c).trans ?_
  refine BIClass.exists_elim fun K => ?_
  refine (sound_body m ρ K c).trans ?_
  exact wp_mono _ _ _ fun _ => post_elim m ρ c

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ Wp c (on (cc0_body (F := F))) (fun _ => bodyPost m ρ c)
  exact body_run m ρ c

/-! ## The side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Whole
  iintro ⟨Hs, -, HT, HF⟩
  isplitl [Hs]; · iexact Hs
  isplitl [HT] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Whole Pipeline.ownSems0 osem
  iintro ⟨⟨HT, HF⟩, Hs, HB⟩
  isplitl [HB]; · iexact HB
  isplitl [Hs]; · iexact Hs
  isplitl [HT] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

set_option maxRecDepth 8000 in
/-- On the mesh of thirty-two devices, for any float values and from any memory with zero counters, every weakly fair
    execution of @main ends, with each window's array at its final contents and every semaphore at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Gather

end
-- ==== Proof.Ideal.Result.lean ====
/-
# What the run leaves

Each window's block is its whole array: the staged blocks are the arguments themselves, and the result array ends
holding the finished result.
-/
module

public import proofs.«01_k».proof.Proof.Ideal.Launch

@[expose] public section

set_option maxRecDepth 16384

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem read_x (f : S128x4096.Idx → Elt F .i8) : (win0_0.blk (0 : Fin 1)).view.read (Elt F) f = f :=
  funext fun i => congrArg f (funext fun a => Fin.ext (win0_0.rect_emb_val_of_index_zero (0 : Fin 1) a (by fin_cases a <;> rfl) i))
theorem read_w (f : S4096x64.Idx → Elt F .i8) : (win0_1.blk (0 : Fin 1)).view.read (Elt F) f = f :=
  funext fun i => congrArg f (funext fun a => Fin.ext (win0_1.rect_emb_val_of_index_zero (0 : Fin 1) a (by fin_cases a <;> rfl) i))
theorem read_a (f : S1.Idx → Elt F .f32) : (win0_2.blk (0 : Fin 1)).view.read (Elt F) f = f :=
  funext fun i => congrArg f (funext fun a => Fin.ext (win0_2.rect_emb_val_of_index_zero (0 : Fin 1) a (by fin_cases a <;> rfl) i))
theorem read_b (f : S1.Idx → Elt F .f32) : (win0_3.blk (0 : Fin 1)).view.read (Elt F) f = f :=
  funext fun i => congrArg f (funext fun a => Fin.ext (win0_3.rect_emb_val_of_index_zero (0 : Fin 1) a (by fin_cases a <;> rfl) i))
theorem emb_out (t : Fin cfg0.N) (i : S4096x64.Idx) : ((cfg0.win (4 : Fin 5)).blk t).view.emb i = i := by
  obtain rfl := fin_N0 t
  exact funext fun a => Fin.ext (win0_4.rect_emb_val_of_index_zero t0_0 a (by fin_cases a <;> rfl) i)

/-- The staged blocks are the arguments. -/
theorem xb_eq (c : Dev nD) : xb m ρ c = m ((c : Thread nD τ).loc main_arg0) := read_x _
theorem wb_eq (c : Dev nD) : wb m ρ c = m ((c : Thread nD τ).loc main_arg1) := read_w _
theorem sa_eq (c : Dev nD) : sa m ρ c = m ((c : Thread nD τ).loc main_arg2) := read_a _
theorem sb_eq (c : Dev nD) : sb m ρ c = m ((c : Thread nD τ).loc main_arg3) := read_b _

theorem flushed_out (c : Dev nD) (t : Fin cfg0.N) :
    (dats m ρ 0 c).flushed (4 : Fin 5) t = ((cfg0.win (4 : Fin 5)).blk t).view.read (Elt F) (outAt m ρ c) := by
  have ha : (dats m ρ 0 c).after (4 : Fin 5) t = outAt m ρ c := by dsimp only [dats]
  unfold Pipeline.Dat.flushed
  rw [ha]
  refine funext fun i => ?_
  exact (congrArg (outAt m ρ c) (emb_out t i)).symm

/-- The result array ends at the finished result. -/
theorem finalA_out (c : Dev nD) : finalA m ρ c (4 : Fin 5) = outAt m ρ c :=
  (dats m ρ 0 c).arrAt_eq_of_cover (4 : Fin 5) (outAt m ρ c) (fun t _ => flushed_out m ρ c t)
    fun i => ⟨t0_0, flush0_4 _, Finset.mem_map.mpr ⟨i, Finset.mem_univ _, emb_out t0_0 i⟩⟩

/-- The run, by the arrays' names. -/
theorem run_result : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) := by
  refine (θ_run defs _ _).mono (fun r hr => ⟨fun c => ⟨?_, ?_, ?_, ?_, ?_⟩, hr.2⟩) (run_main m ρ)
  · exact (hr.1 c (4 : Fin 5)).trans (finalA_out m ρ c)
  · exact (hr.1 c (0 : Fin 5)).trans ((dats m ρ 0 c).arrAt_in (0 : Fin 5) rfl _)
  · exact (hr.1 c (1 : Fin 5)).trans ((dats m ρ 0 c).arrAt_in (1 : Fin 5) rfl _)
  · exact (hr.1 c (2 : Fin 5)).trans ((dats m ρ 0 c).arrAt_in (2 : Fin 5) rfl _)
  · exact (hr.1 c (3 : Fin 5)).trans ((dats m ρ 0 c).arrAt_in (3 : Fin 5) rfl _)

end Cert.KernelIdeal.Gather

end
-- ==== Proof.Tame.lean ====
/-
# The precondition, read off its printed form

The printed precondition folds squares of sign-extended int8 words with 32-bit addition and compares the totals, signed,
with 2²⁴ − 1. A line has 4096 words and a square is at most 2¹⁴, so no fold wraps, and the comparison says what it says of
integers: in every row of a device's block of x, and in every column of its block of w, the squares total at most 2²⁴ − 1.
-/
module

public import proofs.«01_k».proof.Defs
public import Idealize.ShloMosaic.Lib.ValueIdx
public import Idealize.ShloMosaic.Lib.StableHlo.Predicate
public import Idealize.ShloMosaic.Lib.WordCmp
public import Idealize.ShloMosaic.PureOps.Reduce

@[expose] public section

set_option maxRecDepth 16384

noncomputable section

namespace Cert.Tame

open Idealize.ShloMosaic Idealize.ShloMosaic.ValueIdx
open scoped BigOperators

/-- The shape relations that the precondition states of one device's blocks. -/
theorem facts : Cert.Pre_tame_KernelIdeal.Facts where
  natLt_8_32 := by decide
  reducesTo_S128x4096_S128_d1 := by decide
  h_S_ := by decide
  bcast_S_S128 := by decide
  reducesTo_S4096x64_S64_d0 := by decide
  bcast_S_S64 := by decide

/-- The same relations at the whole arrays' shapes. -/
theorem factsWhole : Cert.Pre_tame_ReferenceIdeal.Facts where
  natLt_8_32 := by decide
  reducesTo_S4096x4096_S4096_d1 := by decide
  h_S_ := by decide
  bcast_S_S4096 := by decide
  reducesTo_S4096x2048_S2048_d0 := by decide
  bcast_S_S2048 := by decide

/-- The word the precondition squares an int8 word to. -/
abbrev sqWord (b : BitVec 8) : BitVec 32 := IntOp.muli (b.signExtend 32) (b.signExtend 32)

/-- It is the square: 32 bits are enough. -/
theorem sqWord_toNat (b : BitVec 8) : (sqWord b).toNat = b.toInt.natAbs * b.toInt.natAbs := by
  revert b; decide +kernel

/-- A square of an int8 word is at most 2¹⁴. -/
theorem sq_le (b : BitVec 8) : b.toInt.natAbs * b.toInt.natAbs ≤ 16384 := by
  revert b; decide +kernel

/-- A line of 4096 squares folded with 32-bit addition, found by a signed comparison to be at most 2²⁴ − 1, totals at most
    2²⁴ − 1 as a sum of integers. -/
theorem line_le (f : Fin 4096 → BitVec 8)
    (h : IntOp.cmpi .sle ((Finset.univ : Finset (Fin 4096)).fold IntOp.addi 0#32 fun k => sqWord (f k)) 16777215#32 = 1#1) :
    ∑ k, (f k).toInt.natAbs * (f k).toInt.natAbs ≤ 16777215 := by
  have hle : ∑ k : Fin 4096, (sqWord (f k)).toNat ≤ 67108864 := by
    refine (Finset.sum_le_sum (g := fun _ => 16384) fun k _ => ?_).trans (by simp)
    rw [sqWord_toNat]; exact sq_le _
  have hw := StableHlo.Predicate.toNat_fold_addi (Finset.univ : Finset (Fin 4096)) (fun k => sqWord (f k)) (by omega)
  rw [WordCmp.cmpi_sle_of_lt (by rw [hw]; omega) (by decide), hw] at h
  have h' : ∑ k : Fin 4096, (sqWord (f k)).toNat ≤ (16777215#32).toNat := by
    by_contra hn
    rw [decide_eq_false hn] at h
    exact absurd h (by decide)
  simp only [sqWord_toNat] at h'
  exact h'

local notation "Blk" => Cert.Pre_tame_KernelIdeal.S128x4096
local notation "Col" => Cert.Pre_tame_KernelIdeal.S4096x64

attribute [local instance] facts

/-- The precondition's two results, all ones, say: the squares in each row of the block of x, and in each column of the
    block of w, total at most 2²⁴ − 1. -/
theorem lines (x : IVec Blk 8) (w : IVec Col 8) (a b : FVec Ideal Cert.Pre_tame_KernelIdeal.S1 .f32)
    (h : (Cert.Pre_tame_KernelIdeal.fn (F := Ideal) x w a b).1 = (fun _ => 1#1)
      ∧ (Cert.Pre_tame_KernelIdeal.fn (F := Ideal) x w a b).2 = (fun _ => 1#1)) :
    (∀ r : Fin 128, ∑ k : Fin 4096, (x (ix2 r k)).toInt.natAbs * (x (ix2 r k)).toInt.natAbs ≤ 16777215)
    ∧ (∀ j : Fin 64, ∑ k : Fin 4096, (w (ix2 k j)).toInt.natAbs * (w (ix2 k j)).toInt.natAbs ≤ 16777215) := by
  obtain ⟨h1, h2⟩ := h
  dsimp only [Cert.Pre_tame_KernelIdeal.fn] at h1 h2
  constructor
  · intro r
    have hr : (Blk).Reduces [1] Cert.Pre_tame_KernelIdeal.S128 := by decide
    refine line_le (fun k => x (ix2 r k)) ?_
    have e := congrFun h1 (ix1 r)
    rw [show ∀ (u v : IVec Cert.Pre_tame_KernelIdeal.S128 32) i, cmpi .sle u v i = IntOp.cmpi .sle (u i) (v i) from fun _ _ _ => rfl,
      Host.reduce_eq_fold_single IntOp.addi _ _ _ hr] at e
    have hx : ∀ k : Fin 4096, hr.lift (ix1 r) k = ix2 r k := fun k => by
      funext a; apply Fin.ext
      match a with
      | ⟨0, _⟩ => rfl
      | ⟨1, _⟩ => rfl
    have hf : ((muli (extsi 32 x (by decide)) (extsi 32 x (by decide)) : IVec Blk 32) ∘ hr.lift (ix1 r)) = fun k : Fin 4096 => sqWord (x (ix2 r k)) :=
      funext fun k => by rw [Function.comp_apply, hx k]; rfl
    rw [hf] at e
    exact e
  · intro j
    have hr : (Col).Reduces [0] Cert.Pre_tame_KernelIdeal.S64 := by decide
    refine line_le (fun k => w (ix2 k j)) ?_
    have e := congrFun h2 (ix1 j)
    rw [show ∀ (u v : IVec Cert.Pre_tame_KernelIdeal.S64 32) i, cmpi .sle u v i = IntOp.cmpi .sle (u i) (v i) from fun _ _ _ => rfl,
      Host.reduce_eq_fold_single IntOp.addi _ _ _ hr] at e
    have hx : ∀ k : Fin 4096, hr.lift (ix1 j) k = ix2 k j := fun k => by
      funext a; apply Fin.ext
      match a with
      | ⟨0, _⟩ => rfl
      | ⟨1, _⟩ => rfl
    have hf : ((muli (extsi 32 w (by decide)) (extsi 32 w (by decide)) : IVec Col 32) ∘ hr.lift (ix1 j)) = fun k : Fin 4096 => sqWord (w (ix2 k j)) :=
      funext fun k => by rw [Function.comp_apply, hx k]; rfl
    rw [hf] at e
    exact e

end Cert.Tame

end
-- ==== Proof.Mask.lean ====
/-
# The mask, read off its printed form

The printed mask takes the product of the operands' magnitudes, in the reals, and compares it with 2²⁴ − 1: it selects the
entries of which the products' magnitudes total at most 2²⁴ − 1.
-/
module

public import proofs.«01_k».proof.Defs
public import Idealize.ShloMosaic.Lib.ValueIdx
public import Idealize.ShloMosaic.Lib.StackMember

@[expose] public section

set_option maxRecDepth 16384

noncomputable section

namespace Cert.Mask

open Idealize.ShloMosaic Idealize.ShloMosaic.ValueIdx
open Cert.On_exact
open scoped BigOperators

/-- The shape relations that the mask states. -/
theorem facts : Cert.On_exact.Facts where
  natLt_8_32 := by decide
  bcast_S_S4096x2048 := by decide
  dot_S4096x4096_S4096x2048_S4096x2048_1_0_0_1_n_n_wf := by decide

/-- The magnitude of an int8 word, taken at 32 bits. -/
theorem abs_word (b : BitVec 8) : (IntOp.absi (b.signExtend 32)).toInt = (b.toInt.natAbs : ℤ) := by
  revert b; decide +kernel

/-- The bound the mask compares with. -/
theorem bound_word : Ideal.ofBits .f32 0x4B7FFFFF#32 = ((16777215 : ℝ) : EReal) := by
  simp [Ideal.ofBits, Ideal.ieee, -EReal.coe_mul]

/-- A sum of products of naturals, as an extended real. -/
theorem coe_sum {K : ℕ} (f g : Fin K → ℕ) : ∑ k, ((f k : ℝ) : EReal) * ((g k : ℝ) : EReal) = (((∑ k, f k * g k : ℕ) : ℝ) : EReal) := by
  induction K with
  | zero => simp
  | succ n ih => rw [Fin.sum_univ_castSucc, Fin.sum_univ_castSucc, ih, Nat.cast_add, EReal.coe_add, Nat.cast_mul, EReal.coe_mul]

attribute [local instance] facts

/-- The mask's product is a plain one. -/
theorem dims : dot_S4096x4096_S4096x2048_S4096x2048_1_0_0_1_n_n = DotDims.plain 4096 4096 2048 := rfl

/-- An entry that the mask selects has products of which the magnitudes total at most 2²⁴ − 1. -/
theorem within (X : IVec S4096x4096 8) (W : IVec S4096x2048 8) (a b : FVec Ideal S1 .f32) (i : Fin 4096) (j : Fin 2048)
    (h : fn (F := Ideal) X W a b (ix2 i j) = 1#1) :
    ∑ k, (X (ix2 i k)).toInt.natAbs * (W (ix2 k j)).toInt.natAbs ≤ 16777215 := by
  have hd : Host.dotGeneral dot_S4096x4096_S4096x2048_S4096x2048_1_0_0_1_n_n none
      (sitofp .f32 (absi (extsi 32 X Facts.natLt_8_32)) : FVec Ideal S4096x4096 .f32)
      (sitofp .f32 (absi (extsi 32 W Facts.natLt_8_32)) : FVec Ideal S4096x2048 .f32) (ix2 i j)
        = (((∑ k, (X (ix2 i k)).toInt.natAbs * (W (ix2 k j)).toInt.natAbs : ℕ) : ℝ) : EReal) := by
    rw [dims]
    refine (StackMember.dotGeneral_plain_apply _ _ _ i j).trans ?_
    rw [← coe_sum]
    refine Finset.sum_congr rfl fun k _ => ?_
    rw [← Int.cast_natCast (R := ℝ) (X (ix2 i k)).toInt.natAbs, ← Int.cast_natCast (R := ℝ) (W (ix2 k j)).toInt.natAbs, ← abs_word, ← abs_word]
    rfl
  have hc : ∀ (u v : FVec Ideal S4096x2048 .f32) (q : S4096x2048.Idx), cmpf .ole u v q = Ideal.cmp .ole (u q) (v q) := fun _ _ _ => rfl
  have hv : (broadcastInDim S4096x2048 ![] Facts.bcast_S_S4096x2048 (constant S_ .f32 0x4B7FFFFF#32) : FVec Ideal S4096x2048 .f32) (ix2 i j)
      = ((16777215 : ℝ) : EReal) := bound_word
  dsimp only [fn] at h
  rw [hc, hd, hv] at h
  by_contra hn
  have hf : ¬ ((((∑ k, (X (ix2 i k)).toInt.natAbs * (W (ix2 k j)).toInt.natAbs : ℕ) : ℝ) : EReal) ≤ ((16777215 : ℝ) : EReal)) := by
    rw [EReal.coe_le_coe_iff]
    exact_mod_cast hn
  have e : BitVec.ofBool (decide _) = 1#1 := h
  rw [decide_eq_false hf] at e
  exact absurd e (by decide)

end Cert.Mask

end
-- ==== Proof.Product.lean ====
/-
# The int8 product within its exact range

The matrix unit's int8 product is exact where the products' magnitudes total at most 2²⁴ − 1. Since |a·b| ≤ (a² + b²)/2, a
row and a column whose squares total at most 2²⁴ − 1 each meet that bound.
-/
module

public import Idealize.ShloMosaic.Lib.IntMxu
public import Idealize.ShloMosaic.Lib.ValueIdx
public import Idealize.ShloMosaic.Lib.MatmulPlain
public import Mathlib.Tactic.Linarith
public import Mathlib.Algebra.Order.Ring.Nat

@[expose] public section

noncomputable section

namespace Cert.Product

open Idealize.ShloMosaic Idealize.ShloMosaic.ValueIdx
open scoped BigOperators

/-- A sum over a plain product's contracted positions is the sum over the contracted coordinate. -/
theorem sum_contr {M K N : ℕ} {α β γ : Type} [AddCommMonoid γ] (f : α → β → γ)
    (l : (⟨2, ![M, K]⟩ : Shape).Idx → α) (r : (⟨2, ![K, N]⟩ : Shape).Idx → β) (i : Fin M) (j : Fin N) :
    ∑ q : (DotDims.plain M K N).contr.Idx, f (l ((DotDims.plain M K N).lhsIdx (ix2 i j) q)) (r ((DotDims.plain M K N).rhsIdx (ix2 i j) q))
      = ∑ k : Fin K, f (l (ix2 i k)) (r (ix2 k j)) := by
  rw [← Equiv.sum_comp (DotDims.plainContr M K N).symm]
  refine Finset.sum_congr rfl fun k _ => ?_
  have hk := contrEquiv1_symm_val _ K (DotDims.plain_contr_rank M K N) (DotDims.plain_contr_size M K N) k
  have hl : (DotDims.plain M K N).lhsIdx (ix2 i j) ((DotDims.plainContr M K N).symm k) = ix2 i k :=
    funext fun a => Fin.ext (match a with | ⟨0, _⟩ => rfl | ⟨1, _⟩ => hk)
  have hr : (DotDims.plain M K N).rhsIdx (ix2 i j) ((DotDims.plainContr M K N).symm k) = ix2 k j :=
    funext fun a => Fin.ext (match a with | ⟨0, _⟩ => hk | ⟨1, _⟩ => rfl)
  rw [hl, hr]

/-- Products of naturals total at most what the squares on either side may total. -/
theorem sum_mul_le {K B : ℕ} (f g : Fin K → ℕ) (hf : ∑ k, f k * f k ≤ B) (hg : ∑ k, g k * g k ≤ B) : ∑ k, f k * g k ≤ B := by
  have h : ∑ k, 2 * (f k * g k) ≤ ∑ k, (f k * f k + g k * g k) :=
    Finset.sum_le_sum fun k _ => by
      rcases le_total (f k) (g k) with h | h
      · obtain ⟨d, hd⟩ := Nat.exists_eq_add_of_le h; rw [hd]; nlinarith [Nat.zero_le (d * d)]
      · obtain ⟨d, hd⟩ := Nat.exists_eq_add_of_le h; rw [hd]; nlinarith [Nat.zero_le (d * d)]
  rw [← Finset.mul_sum, Finset.sum_add_distrib] at h
  omega

/-- Where the magnitudes of the products of row i and column j total at most 2²⁴ − 1, the int8 product into zero holds at
    (i, j) the exact dot product. -/
theorem exact {M K N : ℕ} (l : IVec ⟨2, ![M, K]⟩ 8) (r : IVec ⟨2, ![K, N]⟩ 8) (i : Fin M) (j : Fin N)
    (h : ∑ k, (l (ix2 i k)).toInt.natAbs * (r (ix2 k j)).toInt.natAbs ≤ 16777215) :
    (matmulI8 IntMxuNumerics.v7x (DotDims.plain M K N) l r (constantI ⟨2, ![M, N]⟩ 32 0#32) (ix2 i j)).toInt
      = ∑ k, (l (ix2 i k)).toInt * (r (ix2 k j)).toInt := by
  have hb : absDotI8 (DotDims.plain M K N) l r (ix2 i j) ≤ IntMxuNumerics.v7x.exactUpTo := by
    unfold absDotI8
    rw [sum_contr (fun a b : BitVec 8 => (a.toInt * b.toInt).natAbs) l r i j]
    simp only [Int.natAbs_mul]
    exact h
  rw [matmulI8_toInt _ _ _ _ _ _ rfl hb]
  unfold dotI8
  exact sum_contr (fun a b : BitVec 8 => a.toInt * b.toInt) l r i j

end Cert.Product

end
-- ==== Proof.Value.lean ====
/-
# The value over the extended reals

Entry (i, j) of the reference is y / (1 + exp (−y)) with y the dot product of row i of x and column j of w times the two
scales. The kernel's device c holds columns 64·c … 64·c + 63 and computes at row i, from the block of x that has the row,
y · logistic y of the same y: its int8 product is the exact dot product where the products' magnitudes total at most
2²⁴ − 1, and the reference's product of the converted operands is that integer too. The two last steps agree at every
extended real.
-/
module

public import proofs.«01_k».proof.Proof.Product
public import proofs.«01_k».proof.Proof.Ideal.Result
public import proofs.«01_k».proof.Proof.Gen.ReferenceIdeal.Run
public import Idealize.ShloMosaic.Lib.StackMember
public import Idealize.ShloMosaic.Lib.IdealHost
public import Idealize.ShloMosaic.Lib.Layout

@[expose] public section

set_option maxRecDepth 16384

noncomputable section

namespace Cert.Value

open Idealize.ShloMosaic Idealize.SL.Sem
open scoped BigOperators

/-- The exponential is not negative. -/
theorem exp_nonneg : ∀ y : EReal, 0 ≤ Ideal.exp y
  | ⊥ => le_refl _
  | ⊤ => le_top
  | (r : ℝ) => EReal.coe_nonneg.mpr (Real.exp_pos r).le

/-- Times the logistic is divided by one plus the exponential of the negative. -/
theorem silu (y : EReal) : y * Ideal.logistic y = Ideal.div y (1 + Ideal.exp (-y)) := by
  have h : (1 + Ideal.exp (-y) : EReal) ≠ 0 := by
    have : (0 : EReal) < 1 + Ideal.exp (-y) := lt_of_lt_of_le zero_lt_one (le_add_of_nonneg_right (exp_nonneg _))
    exact this.ne'
  unfold Ideal.logistic Ideal.div
  rw [if_neg h, if_neg h, one_mul]

/-- The integers' dot product, as an extended real, is the dot product of the converted operands. -/
theorem coe_dot {K : ℕ} (f g : Fin K → ℤ) :
    (((∑ k, f k * g k : ℤ) : ℝ) : EReal) = ∑ k, ((f k : ℝ) : EReal) * ((g k : ℝ) : EReal) := by
  induction K with
  | zero => simp
  | succ n ih => rw [Fin.sum_univ_castSucc, Fin.sum_univ_castSucc, ← ih, Int.cast_add, EReal.coe_add, Int.cast_mul, EReal.coe_mul]

/-- An int8 word as an extended real. -/
abbrev num (b : BitVec 8) : EReal := ((b.toInt : ℝ) : EReal)

/-- What both programs compute at one entry, from a row, a column and the two scales. -/
def entry (x w : Fin 4096 → BitVec 8) (a b : EReal) : EReal :=
  Ideal.div ((∑ k, num (x k) * num (w k)) * (a * b)) (1 + Ideal.exp (-((∑ k, num (x k) * num (w k)) * (a * b))))

section Kernel
open Cert.KernelIdeal Cert.KernelIdeal.Gen Cert.KernelIdeal.Gather

/-- The kernel's product is a plain one. -/
theorem dims : dot_S128x4096_S4096x64_S128x64_1_0_0_1_n_n = DotDims.plain 128 4096 64 := rfl

/-- The kernel's chunk at (r, j), from a row and a column of which the products are within the exact range. -/
theorem chunk_entry (a b : Ideal .f32) (w : IVec S4096x64 8) (X : IVec S128x4096 8) (r : Fin 128) (j : Fin 64)
    (h : ∑ k, (X (ValueIdx.ix2 r k)).toInt.natAbs * (w (ValueIdx.ix2 k j)).toInt.natAbs ≤ 16777215) :
    chunk (F := Ideal) (k0_pay1 a b) w X (ValueIdx.ix2 r j) = entry (fun k => X (ValueIdx.ix2 r k)) (fun k => w (ValueIdx.ix2 k j)) a b := by
  have hy : (mulf (sitofp .f32 (matmulI8 IntMxuNumerics.v7x dot_S128x4096_S4096x64_S128x64_1_0_0_1_n_n X w (constantI S128x64 32 0#32)))
      (broadcast S128x64 (k0_pay1 a b)) : FVec Ideal S128x64 .f32) (ValueIdx.ix2 r j)
        = (∑ k, num (X (ValueIdx.ix2 r k)) * num (w (ValueIdx.ix2 k j))) * (a * b) := by
    rw [← coe_dot, ← Product.exact X w r j h, dims]
    rfl
  unfold chunk entry
  rw [← silu, ← hy]
  rfl

end Kernel

section Reference
open Cert.ReferenceIdeal Cert.ReferenceIdeal.Gen

/-- The reference's product is a plain one. -/
theorem refDims : dot_S4096x4096_S4096x2048_S4096x2048_1_0_0_1_n_n = DotDims.plain 4096 4096 2048 := rfl

/-- The reference's scaled product. -/
def refY (X : IVec S4096x4096 8) (W : IVec S4096x2048 8) (a b : FVec Ideal S1 .f32) : FVec Ideal S4096x2048 .f32 :=
  mulf (Host.dotGeneral dot_S4096x4096_S4096x2048_S4096x2048_1_0_0_1_n_n none (sitofp .f32 (extsi 32 X natLt_8_32)) (sitofp .f32 (extsi 32 W natLt_8_32)))
    (broadcastInDim S4096x2048 ![0, 1] bcast_S1x1_S4096x2048_0_1 (broadcastInDim S1x1 ![1] bcast_S1_S1x1_1 (mulf a b)))

/-- The reference's result. -/
def refOut (X : IVec S4096x4096 8) (W : IVec S4096x2048 8) (a b : FVec Ideal S1 .f32) : FVec Ideal S4096x2048 .f32 :=
  Host.divf (refY X W a b) (addf (broadcastInDim S4096x2048 ![] bcast_S_S4096x2048 (constant S_ .f32 0x3F800000#32)) (Host.exp (Host.negf (refY X W a b))))

/-- Widening an int8 word keeps its integer. -/
theorem num_wide (b : BitVec 8) : (((b.signExtend 32).toInt : ℝ) : EReal) = num b := by
  unfold num; rw [BitVec.toInt_signExtend_of_le (by decide)]

/-- The reference's scaled product at (i, j). -/
theorem refY_apply (X : IVec S4096x4096 8) (W : IVec S4096x2048 8) (a b : FVec Ideal S1 .f32) (i : Fin 4096) (j : Fin 2048) :
    refY X W a b (ValueIdx.ix2 i j) = (∑ k, num (X (ValueIdx.ix2 i k)) * num (W (ValueIdx.ix2 k j))) * (a (ValueIdx.ix1 0) * b (ValueIdx.ix1 0)) := by
  have hd : Host.dotGeneral dot_S4096x4096_S4096x2048_S4096x2048_1_0_0_1_n_n none (sitofp .f32 (extsi 32 X natLt_8_32) : FVec Ideal S4096x4096 .f32)
      (sitofp .f32 (extsi 32 W natLt_8_32) : FVec Ideal S4096x2048 .f32) (ValueIdx.ix2 i j) = ∑ k, num (X (ValueIdx.ix2 i k)) * num (W (ValueIdx.ix2 k j)) := by
    rw [refDims]
    refine (StackMember.dotGeneral_plain_apply _ _ _ i j).trans (Finset.sum_congr rfl fun k _ => ?_)
    rw [← num_wide, ← num_wide]
    rfl
  have hs : (broadcastInDim S4096x2048 ![0, 1] bcast_S1x1_S4096x2048_0_1 (broadcastInDim S1x1 ![1] bcast_S1_S1x1_1 (mulf a b)) : FVec Ideal S4096x2048 .f32) (ValueIdx.ix2 i j)
      = a (ValueIdx.ix1 0) * b (ValueIdx.ix1 0) := by
    have : ∀ q : S1.Idx, (mulf a b : FVec Ideal S1 .f32) q = a (ValueIdx.ix1 0) * b (ValueIdx.ix1 0) := fun q => by
      have hq : q = ValueIdx.ix1 0 := by rw [ValueIdx.eq_ix1 q]; exact congrArg ValueIdx.ix1 (Subsingleton.elim (α := Fin 1) (q 0) 0)
      rw [hq]; rfl
    exact this _
  unfold refY
  rw [ValueIdx.mulf_apply, hd, hs]

/-- The reference's result at (i, j). -/
theorem refOut_apply (X : IVec S4096x4096 8) (W : IVec S4096x2048 8) (a b : FVec Ideal S1 .f32) (i : Fin 4096) (j : Fin 2048) :
    refOut X W a b (ValueIdx.ix2 i j) = entry (fun k => X (ValueIdx.ix2 i k)) (fun k => W (ValueIdx.ix2 k j)) (a (ValueIdx.ix1 0)) (b (ValueIdx.ix1 0)) := by
  have h1 : (broadcastInDim S4096x2048 ![] bcast_S_S4096x2048 (constant S_ .f32 0x3F800000#32) : FVec Ideal S4096x2048 .f32) (ValueIdx.ix2 i j) = 1 :=
    Ideal.ofBits_one_f32
  have h2 : ∀ (y : FVec Ideal S4096x2048 .f32) (o : FVec Ideal S4096x2048 .f32) (q : S4096x2048.Idx),
      Host.divf y (addf o (Host.exp (Host.negf y))) q = Ideal.div (y q) (o q + Ideal.exp (-(y q))) := fun _ _ _ => rfl
  unfold entry refOut
  rw [h2, h1, refY_apply]

end Reference

section Meet
open Cert.KernelIdeal Cert.KernelIdeal.Gen Cert.KernelIdeal.Gather

variable (m : (ℓ : Loc nD τ sig) → Buf (Elt Ideal) ℓ) (ρ : Dev nD → PrngReg)

/-- Column j of device c's columns, in the whole array. -/
def colOf (c : Dev nD) (j : Fin 64) : Fin 2048 := ⟨c.val * 64 + j.val, by have : c.val < 32 := c.isLt; omega⟩

/-- Where entry (i, j) of block c of the columns is in the whole array. -/
theorem col_idx (hT : Layout.Tiles ⟨2, ![4096, 64]⟩ ⟨2, ![4096, 2048]⟩ 1 32) (c : Dev nD) (i : Fin 4096) (j : Fin 64) :
    hT.idx c (ValueIdx.ix2 i j) = ValueIdx.ix2 i (colOf c j) := by
  funext d; apply Fin.ext
  match d with
  | ⟨0, _⟩ => rfl
  | ⟨1, _⟩ => rfl

/-- Row i of the whole array is a row of the block of the device it belongs to. -/
theorem row_idx (hT : Layout.Tiles ⟨2, ![128, 4096]⟩ ⟨2, ![4096, 4096]⟩ 0 32) (i k : Fin 4096) :
    hT.idx (rowDev i) (ValueIdx.ix2 (rowIn i) k) = ValueIdx.ix2 i k := by
  funext d; apply Fin.ext
  match d with
  | ⟨0, _⟩ => exact Nat.div_add_mod' i.val 128
  | ⟨1, _⟩ => rfl

/-- When each device holds its block of x and of w and both scales, device c's finished result is, at an entry of which the
    products are within the exact range, the reference's at its place in the whole array. -/
theorem out_eq (X : IVec ⟨2, ![4096, 4096]⟩ 8) (W : IVec ⟨2, ![4096, 2048]⟩ 8) (a b : FVec Ideal ⟨1, ![1]⟩ .f32)
    (hX : ∀ c : Dev nD, m ((c.tc : Thread nD τ).loc main_arg0) = Layout.block ⟨2, ![128, 4096]⟩ ⟨2, ![4096, 4096]⟩ 0 32 c X)
    (hW : ∀ c : Dev nD, m ((c.tc : Thread nD τ).loc main_arg1) = Layout.block ⟨2, ![4096, 64]⟩ ⟨2, ![4096, 2048]⟩ 1 32 c W)
    (ha : ∀ c : Dev nD, m ((c.tc : Thread nD τ).loc main_arg2) = a)
    (hb : ∀ c : Dev nD, m ((c.tc : Thread nD τ).loc main_arg3) = b)
    (c : Dev nD) (i : Fin 4096) (j : Fin 64)
    (h : ∑ k, (X (ValueIdx.ix2 i k)).toInt.natAbs * (W (ValueIdx.ix2 k (colOf c j))).toInt.natAbs ≤ 16777215) :
    outAt m ρ c (ValueIdx.ix2 i j) = refOut X W a b (ValueIdx.ix2 i (colOf c j)) := by
  rw [refOut_apply]
  have e1 : ∀ k : Fin 4096, xb m ρ (rowDev i) (ValueIdx.ix2 (rowIn i) k) = X (ValueIdx.ix2 i k) := fun k => by
    rw [xb_eq, hX, Layout.block_apply, row_idx]
  have e2 : ∀ k : Fin 4096, wb m ρ c (ValueIdx.ix2 k j) = W (ValueIdx.ix2 k (colOf c j)) := fun k => by
    rw [wb_eq, hW, Layout.block_apply, col_idx]
  have z : ∀ q : S1.Idx, q = ValueIdx.ix1 0 := fun q => by
    rw [ValueIdx.eq_ix1 q]; exact congrArg ValueIdx.ix1 (Subsingleton.elim (α := Fin 1) (q 0) 0)
  have e3 : ∀ q : S1.Idx, sa m ρ c q = a (ValueIdx.ix1 0) := fun q => by rw [sa_eq, ha, z q]
  have e4 : ∀ q : S1.Idx, sb m ρ c q = b (ValueIdx.ix1 0) := fun q => by rw [sb_eq, hb, z q]
  refine (chunk_entry _ _ _ _ (rowIn i) j ?_).trans ?_
  · simp only [e1, e2]; exact h
  · rw [e3, e4, funext e1, funext e2]

end Meet

end Cert.Value

end
-- ==== Proof.lean ====
/- The proof of the certificate's claims: three frames, `preserves`, and the value of the kernel against the reference. The
   runs are proved in Proof/Ideal and Proof/Bits (one text at two float instances), the value in Proof/Value.lean; here the
   parts are put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Result
public import proofs.«01_k».proof.Proof.Bits.Result
public import proofs.«01_k».proof.Proof.Tame
public import proofs.«01_k».proof.Proof.Mask
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The printed kernel terminates from every memory, with its arguments unchanged and every semaphore at zero. -/
theorem frameKernel : quiescent_Kernel (hKernel := Cert.Kernel.Gen.facts) := fun m g _ =>
  (θ_run _ _ _).mono (fun _ h => ⟨fun c => (h.1 c).2, h.2⟩) (Cert.Kernel.Gather.run_result (F := Bits) m g)

/-- So does the kernel over the extended reals. -/
theorem frameIdeal : quiescent_KernelIdeal (hKernelIdeal := Cert.KernelIdeal.Gen.facts) := fun m g _ =>
  (θ_run _ _ _).mono (fun _ h => ⟨fun c => (h.1 c).2, h.2⟩) (Cert.KernelIdeal.Gather.run_result (F := Ideal) m g)

/-- So does the reference: it has no semaphores. -/
theorem frameReference : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- Without a precondition: each device's result is its block of columns of the reference's at every entry of which the
    products' magnitudes total at most 2²⁴ − 1. -/
theorem valueOn : algebraic_KernelIdeal_ReferenceIdeal_on_exact (hKernelIdeal := Cert.KernelIdeal.Gen.facts)
    (hReferenceIdeal := Cert.ReferenceIdeal.Gen.facts) (hOn_exact := Cert.Mask.facts) := fun m g m' g' _ hm => by
  refine ⟨Cert.Value.refOut _ _ _ _, (θ_run _ _ _).mono (fun r h c => ⟨fun i hi => ?_, (h.1 c).2⟩)
      (Cert.KernelIdeal.Gather.run_result (F := Ideal) m g),
    (θ_run _ _ _).mono (fun r h => ⟨fun i _ => congrFun (h 0).1 i, (h 0).2⟩) (Cert.ReferenceIdeal.Value.run (F := Ideal) m' g')⟩
  rw [(h.1 c).1]
  obtain ⟨p, q, rfl⟩ : ∃ (p : Fin 4096) (q : Fin 64), i = ValueIdx.ix2 p q := ⟨i 0, i 1, ValueIdx.eq_ix2 i⟩
  rw [Layout.block_apply, Cert.Value.col_idx] at hi ⊢
  exact Cert.Value.out_eq m g _ _ _ _ (fun c => (hm c).1) (fun c => (hm c).2.1) (fun c => (hm c).2.2.1) (fun c => (hm c).2.2.2) c p q
    (Cert.Mask.within _ _ _ _ _ _ hi)

/-- Within the precondition each device's result is its block of columns of the reference's, whole. -/
theorem value : algebraic_KernelIdeal_ReferenceIdeal_pre_tame_KernelIdeal (hKernelIdeal := Cert.KernelIdeal.Gen.facts)
    (hReferenceIdeal := Cert.ReferenceIdeal.Gen.facts) (hPre_tame_KernelIdeal := Cert.Tame.facts) := fun m g m' g' hp hm => by
  have hl := fun c => Cert.Tame.lines _ _ _ _ (hp c)
  refine ⟨Cert.Value.refOut _ _ _ _, (θ_run _ _ _).mono (fun r h c => ⟨(h.1 c).1.trans (funext fun i => ?_), (h.1 c).2⟩)
      (Cert.KernelIdeal.Gather.run_result (F := Ideal) m g),
    (θ_run _ _ _).mono (fun r h => h 0) (Cert.ReferenceIdeal.Value.run (F := Ideal) m' g')⟩
  obtain ⟨p, q, rfl⟩ : ∃ (p : Fin 4096) (q : Fin 64), i = ValueIdx.ix2 p q := ⟨i 0, i 1, ValueIdx.eq_ix2 i⟩
  rw [Layout.block_apply, Cert.Value.col_idx]
  refine Cert.Value.out_eq m g _ _ _ _ (fun c => (hm c).1) (fun c => (hm c).2.1) (fun c => (hm c).2.2.1) (fun c => (hm c).2.2.2) c p q ?_
  refine Cert.Product.sum_mul_le _ _ ?_ ?_
  · simpa only [(hm _).1, Layout.block_apply, Cert.Value.row_idx] using (hl (Cert.KernelIdeal.Gather.rowDev p)).1 (Cert.KernelIdeal.Gather.rowIn p)
  · simpa only [(hm _).2.1, Layout.block_apply, Cert.Value.col_idx] using (hl c).2 q

/-- Everything claimed. -/
theorem claim : Cert.Claim :=
  ⟨Cert.Kernel.Gen.facts, Cert.KernelIdeal.Gen.facts, Cert.ReferenceIdeal.Gen.facts, Cert.Tame.facts, Cert.Tame.factsWhole, Cert.Mask.facts,
    frameKernel, frameIdeal, fun m g _ => frameIdeal m g trivial, frameReference, fun m g _ => frameReference m g trivial, trivial, valueOn, value⟩

end Cert.Proof

end
